-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![2048, 512]⟩ ⟨2, ![4096, 512]⟩ (Layout.meshBlock [2, 4, 4] ![[0], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2048x512 : Shape := ⟨2, ![2048, 512]⟩
abbrev S4096x512 : Shape := ⟨2, ![4096, 512]⟩
abbrev S16 : Shape := ⟨1, ![16]⟩
abbrev S_ : Shape := ⟨0, ![]⟩
abbrev S512x512 : Shape := ⟨2, ![512, 512]⟩
abbrev S1 : Shape := ⟨1, ![1]⟩
abbrev S64x512 : Shape := ⟨2, ![64, 512]⟩
abbrev S1024x512 : Shape := ⟨2, ![1024, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .bf16⟩
  | .hbm, ⟨1, _⟩ => ⟨S4096x512, .bf16⟩
  | .local _ .vmem, ⟨0, _⟩ => ⟨S2048x512, .bf16⟩
  | .local _ .vmem, ⟨1, _⟩ => ⟨S4096x512, .bf16⟩
  | _, _ => ⟨S2048x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_17 : BitVec 32 := 16#32
  let v34 : BitVec 32 := Scalar.muli v9 c16_i32_17
  let v35 : BitVec 32 := Scalar.addi c0_i32_18 v34
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_19 : BitVec 32 := 4#32
  let v36 : BitVec 32 := Scalar.muli v5 c4_i32_19
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v38 : BitVec 32 := Scalar.muli v8 c1_i32_20
  let v39 : BitVec 32 := Scalar.addi v37 v38
  v39.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v40 : BitVec 32 := Scalar.muli v2 c16_i32_22
  let v41 : BitVec 32 := Scalar.addi c0_i32_23 v40
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v42 : BitVec 32 := Scalar.muli v5 c4_i32_24
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_25 : BitVec 32 := 1#32
  let v44 : BitVec 32 := Scalar.muli v10 c1_i32_25
  let v45 : BitVec 32 := Scalar.addi v43 v44
  v45.toNat
def k0_off1 (d0 : Dev nD) (c0_i32_28 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1024_i32_27 : BitVec 32 := 1024#32
  let v46 : BitVec 32 := Scalar.muli v20 c1024_i32_27
  let v47 : BitVec 32 := Scalar.addi v46 c0_i32_28
  let v48 : Index := Scalar.indexCast v47
  let c0 : Index := 0#32
  ![v48.toNat, 0]
def k0_off2 (d0 : Dev nD) (c0_i32_29 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v21 : BitVec 32 := Scalar.muli v2 c2048_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1024_i32 : BitVec 32 := 1024#32
  let v22 : BitVec 32 := Scalar.muli v20 c1024_i32
  let v23 : BitVec 32 := Scalar.addi v21 v22
  let v51 : BitVec 32 := Scalar.addi v23 c0_i32_29
  let v52 : Index := Scalar.indexCast v51
  let c0_30 : Index := 0#32
  ![v52.toNat, 0]
def k0_off3 (d0 : Dev nD) (c0_i32_32 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v21 : BitVec 32 := Scalar.muli v2 c2048_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1024_i32 : BitVec 32 := 1024#32
  let v22 : BitVec 32 := Scalar.muli v20 c1024_i32
  let v23 : BitVec 32 := Scalar.addi v21 v22
  let v55 : BitVec 32 := Scalar.addi v23 c0_i32_32
  let c0_i32_39 : BitVec 32 := 0#32
  ![v55.toNat, 0]
def k0_dev3 (d0 : Dev nD) : Nat :=
  let c0_i32_36 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_35 : BitVec 32 := 16#32
  let v56 : BitVec 32 := Scalar.muli v9 c16_i32_35
  let v57 : BitVec 32 := Scalar.addi c0_i32_36 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_37 : BitVec 32 := 4#32
  let v58 : BitVec 32 := Scalar.muli v5 c4_i32_37
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v60 : BitVec 32 := Scalar.muli v8 c1_i32_38
  let v61 : BitVec 32 := Scalar.addi v59 v60
  v61.toNat
def k0_dev4 (d0 : Dev nD) : Nat :=
  let c0_i32_45 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_44 : BitVec 32 := 16#32
  let v70 : BitVec 32 := Scalar.muli v9 c16_i32_44
  let v71 : BitVec 32 := Scalar.addi c0_i32_45 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_46 : BitVec 32 := 4#32
  let v72 : BitVec 32 := Scalar.muli v5 c4_i32_46
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v74 : BitVec 32 := Scalar.muli v8 c1_i32_47
  let v75 : BitVec 32 := Scalar.addi v73 v74
  v75.toNat
def k0_dev5 (d0 : Dev nD) : Nat :=
  let c0_i32_54 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_53 : BitVec 32 := 16#32
  let v84 : BitVec 32 := Scalar.muli v9 c16_i32_53
  let v85 : BitVec 32 := Scalar.addi c0_i32_54 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_55 : BitVec 32 := 4#32
  let v86 : BitVec 32 := Scalar.muli v5 c4_i32_55
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v88 : BitVec 32 := Scalar.muli v8 c1_i32_56
  let v89 : BitVec 32 := Scalar.addi v87 v88
  v89.toNat
def k0_dev6 (d0 : Dev nD) : Nat :=
  let c0_i32_62 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_61 : BitVec 32 := 16#32
  let v98 : BitVec 32 := Scalar.muli v9 c16_i32_61
  let v99 : BitVec 32 := Scalar.addi c0_i32_62 v98
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_63 : BitVec 32 := 4#32
  let v100 : BitVec 32 := Scalar.muli v5 c4_i32_63
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v102 : BitVec 32 := Scalar.muli v8 c1_i32_64
  let v103 : BitVec 32 := Scalar.addi v101 v102
  v103.toNat
def k0_dev7 (d0 : Dev nD) : Nat :=
  let c0_i32_71 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_70 : BitVec 32 := 16#32
  let v112 : BitVec 32 := Scalar.muli v9 c16_i32_70
  let v113 : BitVec 32 := Scalar.addi c0_i32_71 v112
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_72 : BitVec 32 := 4#32
  let v114 : BitVec 32 := Scalar.muli v5 c4_i32_72
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v116 : BitVec 32 := Scalar.muli v8 c1_i32_73
  let v117 : BitVec 32 := Scalar.addi v115 v116
  v117.toNat
def k0_dev8 (d0 : Dev nD) : Nat :=
  let c0_i32_79 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_78 : BitVec 32 := 16#32
  let v126 : BitVec 32 := Scalar.muli v9 c16_i32_78
  let v127 : BitVec 32 := Scalar.addi c0_i32_79 v126
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_80 : BitVec 32 := 4#32
  let v128 : BitVec 32 := Scalar.muli v5 c4_i32_80
  let v129 : BitVec 32 := Scalar.addi v127 v128
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v130 : BitVec 32 := Scalar.muli v8 c1_i32_81
  let v131 : BitVec 32 := Scalar.addi v129 v130
  v131.toNat
def k0_dev9 (d0 : Dev nD) : Nat :=
  let c0_i32_87 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_86 : BitVec 32 := 16#32
  let v140 : BitVec 32 := Scalar.muli v9 c16_i32_86
  let v141 : BitVec 32 := Scalar.addi c0_i32_87 v140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_88 : BitVec 32 := 4#32
  let v142 : BitVec 32 := Scalar.muli v5 c4_i32_88
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v144 : BitVec 32 := Scalar.muli v8 c1_i32_89
  let v145 : BitVec 32 := Scalar.addi v143 v144
  v145.toNat
def k0_dev10 (d0 : Dev nD) : Nat :=
  let c0_i32_95 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_94 : BitVec 32 := 16#32
  let v154 : BitVec 32 := Scalar.muli v9 c16_i32_94
  let v155 : BitVec 32 := Scalar.addi c0_i32_95 v154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_96 : BitVec 32 := 4#32
  let v156 : BitVec 32 := Scalar.muli v5 c4_i32_96
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v158 : BitVec 32 := Scalar.muli v8 c1_i32_97
  let v159 : BitVec 32 := Scalar.addi v157 v158
  v159.toNat
def k0_dev11 (d0 : Dev nD) : Nat :=
  let c0_i32_108 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_107 : BitVec 32 := 16#32
  let v176 : BitVec 32 := Scalar.muli v9 c16_i32_107
  let v177 : BitVec 32 := Scalar.addi c0_i32_108 v176
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_109 : BitVec 32 := 4#32
  let v178 : BitVec 32 := Scalar.muli v5 c4_i32_109
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v180 : BitVec 32 := Scalar.muli v8 c1_i32_110
  let v181 : BitVec 32 := Scalar.addi v179 v180
  v181.toNat
def k0_dev12 (d0 : Dev nD) : Nat :=
  let c0_i32_116 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_115 : BitVec 32 := 16#32
  let v190 : BitVec 32 := Scalar.muli v9 c16_i32_115
  let v191 : BitVec 32 := Scalar.addi c0_i32_116 v190
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_117 : BitVec 32 := 4#32
  let v192 : BitVec 32 := Scalar.muli v5 c4_i32_117
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v194 : BitVec 32 := Scalar.muli v8 c1_i32_118
  let v195 : BitVec 32 := Scalar.addi v193 v194
  v195.toNat
def k0_dev13 (d0 : Dev nD) : Nat :=
  let c0_i32_124 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_123 : BitVec 32 := 16#32
  let v204 : BitVec 32 := Scalar.muli v9 c16_i32_123
  let v205 : BitVec 32 := Scalar.addi c0_i32_124 v204
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_125 : BitVec 32 := 4#32
  let v206 : BitVec 32 := Scalar.muli v5 c4_i32_125
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v208 : BitVec 32 := Scalar.muli v8 c1_i32_126
  let v209 : BitVec 32 := Scalar.addi v207 v208
  v209.toNat
def k0_dev14 (d0 : Dev nD) : Nat :=
  let c0_i32_132 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_131 : BitVec 32 := 16#32
  let v218 : BitVec 32 := Scalar.muli v9 c16_i32_131
  let v219 : BitVec 32 := Scalar.addi c0_i32_132 v218
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_133 : BitVec 32 := 4#32
  let v220 : BitVec 32 := Scalar.muli v5 c4_i32_133
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v222 : BitVec 32 := Scalar.muli v8 c1_i32_134
  let v223 : BitVec 32 := Scalar.addi v221 v222
  v223.toNat
def k0_dev15 (d0 : Dev nD) : Nat :=
  let c0_i32_140 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_139 : BitVec 32 := 16#32
  let v232 : BitVec 32 := Scalar.muli v9 c16_i32_139
  let v233 : BitVec 32 := Scalar.addi c0_i32_140 v232
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_141 : BitVec 32 := 4#32
  let v234 : BitVec 32 := Scalar.muli v5 c4_i32_141
  let v235 : BitVec 32 := Scalar.addi v233 v234
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v236 : BitVec 32 := Scalar.muli v8 c1_i32_142
  let v237 : BitVec 32 := Scalar.addi v235 v236
  v237.toNat
def k0_dev16 (d0 : Dev nD) : Nat :=
  let c0_i32_148 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_147 : BitVec 32 := 16#32
  let v246 : BitVec 32 := Scalar.muli v9 c16_i32_147
  let v247 : BitVec 32 := Scalar.addi c0_i32_148 v246
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_149 : BitVec 32 := 4#32
  let v248 : BitVec 32 := Scalar.muli v5 c4_i32_149
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_150 : BitVec 32 := 1#32
  let v250 : BitVec 32 := Scalar.muli v8 c1_i32_150
  let v251 : BitVec 32 := Scalar.addi v249 v250
  v251.toNat
def k0_dev17 (d0 : Dev nD) : Nat :=
  let c0_i32_156 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_155 : BitVec 32 := 16#32
  let v260 : BitVec 32 := Scalar.muli v9 c16_i32_155
  let v261 : BitVec 32 := Scalar.addi c0_i32_156 v260
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_157 : BitVec 32 := 4#32
  let v262 : BitVec 32 := Scalar.muli v5 c4_i32_157
  let v263 : BitVec 32 := Scalar.addi v261 v262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_158 : BitVec 32 := 1#32
  let v264 : BitVec 32 := Scalar.muli v8 c1_i32_158
  let v265 : BitVec 32 := Scalar.addi v263 v264
  v265.toNat
def k0_dev18 (d0 : Dev nD) : Nat :=
  let c0_i32_164 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_163 : BitVec 32 := 16#32
  let v274 : BitVec 32 := Scalar.muli v9 c16_i32_163
  let v275 : BitVec 32 := Scalar.addi c0_i32_164 v274
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_165 : BitVec 32 := 4#32
  let v276 : BitVec 32 := Scalar.muli v5 c4_i32_165
  let v277 : BitVec 32 := Scalar.addi v275 v276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v278 : BitVec 32 := Scalar.muli v8 c1_i32_166
  let v279 : BitVec 32 := Scalar.addi v277 v278
  v279.toNat
def k0_off4 (d0 : Dev nD) : Fin 2 → Nat :=
  let c1_i32_169 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v286 : BitVec 32 := Scalar.subi c1_i32_169 v20
  let c1024_i32_170 : BitVec 32 := 1024#32
  let v287 : BitVec 32 := Scalar.muli v286 c1024_i32_170
  let v288 : Index := Scalar.indexCast v287
  let c0_171 : Index := 0#32
  ![v288.toNat, 0]
def k0_off5 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v21 : BitVec 32 := Scalar.muli v2 c2048_i32
  let c1_i32_169 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v286 : BitVec 32 := Scalar.subi c1_i32_169 v20
  let c1024_i32_172 : BitVec 32 := 1024#32
  let v291 : BitVec 32 := Scalar.muli v286 c1024_i32_172
  let v292 : BitVec 32 := Scalar.addi v21 v291
  let v293 : Index := Scalar.indexCast v292
  let c0_173 : Index := 0#32
  ![v293.toNat, 0]
def k0_off6 (d0 : Dev nD) (c0_i32_183 : BitVec 32) : Fin 2 → Nat :=
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v24 : BitVec 32 := Scalar.subi c1_i32_9 v2
  let c2048_i32_10 : BitVec 32 := 2048#32
  let v25 : BitVec 32 := Scalar.muli v24 c2048_i32_10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c1024_i32_11 : BitVec 32 := 1024#32
  let v26 : BitVec 32 := Scalar.muli v20 c1024_i32_11
  let v27 : BitVec 32 := Scalar.addi v25 v26
  let v306 : BitVec 32 := Scalar.addi v27 c0_i32_183
  let c0_i32_190 : BitVec 32 := 0#32
  ![v306.toNat, 0]
def k0_dev19 (d0 : Dev nD) : Nat :=
  let c0_i32_187 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_186 : BitVec 32 := 16#32
  let v307 : BitVec 32 := Scalar.muli v2 c16_i32_186
  let v308 : BitVec 32 := Scalar.addi c0_i32_187 v307
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_188 : BitVec 32 := 4#32
  let v309 : BitVec 32 := Scalar.muli v5 c4_i32_188
  let v310 : BitVec 32 := Scalar.addi v308 v309
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_189 : BitVec 32 := 1#32
  let v311 : BitVec 32 := Scalar.muli v10 c1_i32_189
  let v312 : BitVec 32 := Scalar.addi v310 v311
  v312.toNat
def k0_dev20 (d0 : Dev nD) : Nat :=
  let c0_i32_205 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_204 : BitVec 32 := 16#32
  let v331 : BitVec 32 := Scalar.muli v2 c16_i32_204
  let v332 : BitVec 32 := Scalar.addi c0_i32_205 v331
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_206 : BitVec 32 := 4#32
  let v333 : BitVec 32 := Scalar.muli v5 c4_i32_206
  let v334 : BitVec 32 := Scalar.addi v332 v333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_207 : BitVec 32 := 1#32
  let v335 : BitVec 32 := Scalar.muli v10 c1_i32_207
  let v336 : BitVec 32 := Scalar.addi v334 v335
  v336.toNat
def k0_dev21 (d0 : Dev nD) : Nat :=
  let c0_i32_223 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_222 : BitVec 32 := 16#32
  let v355 : BitVec 32 := Scalar.muli v2 c16_i32_222
  let v356 : BitVec 32 := Scalar.addi c0_i32_223 v355
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_224 : BitVec 32 := 4#32
  let v357 : BitVec 32 := Scalar.muli v5 c4_i32_224
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_225 : BitVec 32 := 1#32
  let v359 : BitVec 32 := Scalar.muli v10 c1_i32_225
  let v360 : BitVec 32 := Scalar.addi v358 v359
  v360.toNat
def k0_dev22 (d0 : Dev nD) : Nat :=
  let c0_i32_241 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_240 : BitVec 32 := 16#32
  let v379 : BitVec 32 := Scalar.muli v2 c16_i32_240
  let v380 : BitVec 32 := Scalar.addi c0_i32_241 v379
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_242 : BitVec 32 := 4#32
  let v381 : BitVec 32 := Scalar.muli v5 c4_i32_242
  let v382 : BitVec 32 := Scalar.addi v380 v381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_243 : BitVec 32 := 1#32
  let v383 : BitVec 32 := Scalar.muli v10 c1_i32_243
  let v384 : BitVec 32 := Scalar.addi v382 v383
  v384.toNat
def k0_dev23 (d0 : Dev nD) : Nat :=
  let c0_i32_259 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_258 : BitVec 32 := 16#32
  let v403 : BitVec 32 := Scalar.muli v2 c16_i32_258
  let v404 : BitVec 32 := Scalar.addi c0_i32_259 v403
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_260 : BitVec 32 := 4#32
  let v405 : BitVec 32 := Scalar.muli v5 c4_i32_260
  let v406 : BitVec 32 := Scalar.addi v404 v405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_261 : BitVec 32 := 1#32
  let v407 : BitVec 32 := Scalar.muli v10 c1_i32_261
  let v408 : BitVec 32 := Scalar.addi v406 v407
  v408.toNat
def k0_dev24 (d0 : Dev nD) : Nat :=
  let c0_i32_277 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_276 : BitVec 32 := 16#32
  let v427 : BitVec 32 := Scalar.muli v2 c16_i32_276
  let v428 : BitVec 32 := Scalar.addi c0_i32_277 v427
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_278 : BitVec 32 := 4#32
  let v429 : BitVec 32 := Scalar.muli v5 c4_i32_278
  let v430 : BitVec 32 := Scalar.addi v428 v429
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_279 : BitVec 32 := 1#32
  let v431 : BitVec 32 := Scalar.muli v10 c1_i32_279
  let v432 : BitVec 32 := Scalar.addi v430 v431
  v432.toNat
def k0_dev25 (d0 : Dev nD) : Nat :=
  let c0_i32_295 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_294 : BitVec 32 := 16#32
  let v451 : BitVec 32 := Scalar.muli v2 c16_i32_294
  let v452 : BitVec 32 := Scalar.addi c0_i32_295 v451
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_296 : BitVec 32 := 4#32
  let v453 : BitVec 32 := Scalar.muli v5 c4_i32_296
  let v454 : BitVec 32 := Scalar.addi v452 v453
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_297 : BitVec 32 := 1#32
  let v455 : BitVec 32 := Scalar.muli v10 c1_i32_297
  let v456 : BitVec 32 := Scalar.addi v454 v455
  v456.toNat
def k0_dev26 (d0 : Dev nD) : Nat :=
  let c0_i32_313 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_312 : BitVec 32 := 16#32
  let v475 : BitVec 32 := Scalar.muli v2 c16_i32_312
  let v476 : BitVec 32 := Scalar.addi c0_i32_313 v475
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_314 : BitVec 32 := 4#32
  let v477 : BitVec 32 := Scalar.muli v5 c4_i32_314
  let v478 : BitVec 32 := Scalar.addi v476 v477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_315 : BitVec 32 := 1#32
  let v479 : BitVec 32 := Scalar.muli v10 c1_i32_315
  let v480 : BitVec 32 := Scalar.addi v478 v479
  v480.toNat
def k0_dev27 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v499 : BitVec 32 := Scalar.muli v2 c16_i32_330
  let v500 : BitVec 32 := Scalar.addi c0_i32_331 v499
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v501 : BitVec 32 := Scalar.muli v5 c4_i32_332
  let v502 : BitVec 32 := Scalar.addi v500 v501
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_333 : BitVec 32 := 1#32
  let v503 : BitVec 32 := Scalar.muli v10 c1_i32_333
  let v504 : BitVec 32 := Scalar.addi v502 v503
  v504.toNat
def k0_dev28 (d0 : Dev nD) : Nat :=
  let c0_i32_349 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_348 : BitVec 32 := 16#32
  let v523 : BitVec 32 := Scalar.muli v2 c16_i32_348
  let v524 : BitVec 32 := Scalar.addi c0_i32_349 v523
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_350 : BitVec 32 := 4#32
  let v525 : BitVec 32 := Scalar.muli v5 c4_i32_350
  let v526 : BitVec 32 := Scalar.addi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_351 : BitVec 32 := 1#32
  let v527 : BitVec 32 := Scalar.muli v10 c1_i32_351
  let v528 : BitVec 32 := Scalar.addi v526 v527
  v528.toNat
def k0_dev29 (d0 : Dev nD) : Nat :=
  let c0_i32_367 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_366 : BitVec 32 := 16#32
  let v547 : BitVec 32 := Scalar.muli v2 c16_i32_366
  let v548 : BitVec 32 := Scalar.addi c0_i32_367 v547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_368 : BitVec 32 := 4#32
  let v549 : BitVec 32 := Scalar.muli v5 c4_i32_368
  let v550 : BitVec 32 := Scalar.addi v548 v549
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_369 : BitVec 32 := 1#32
  let v551 : BitVec 32 := Scalar.muli v10 c1_i32_369
  let v552 : BitVec 32 := Scalar.addi v550 v551
  v552.toNat
def k0_dev30 (d0 : Dev nD) : Nat :=
  let c0_i32_385 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_384 : BitVec 32 := 16#32
  let v571 : BitVec 32 := Scalar.muli v2 c16_i32_384
  let v572 : BitVec 32 := Scalar.addi c0_i32_385 v571
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_386 : BitVec 32 := 4#32
  let v573 : BitVec 32 := Scalar.muli v5 c4_i32_386
  let v574 : BitVec 32 := Scalar.addi v572 v573
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_387 : BitVec 32 := 1#32
  let v575 : BitVec 32 := Scalar.muli v10 c1_i32_387
  let v576 : BitVec 32 := Scalar.addi v574 v575
  v576.toNat
def k0_dev31 (d0 : Dev nD) : Nat :=
  let c0_i32_403 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_402 : BitVec 32 := 16#32
  let v595 : BitVec 32 := Scalar.muli v2 c16_i32_402
  let v596 : BitVec 32 := Scalar.addi c0_i32_403 v595
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_404 : BitVec 32 := 4#32
  let v597 : BitVec 32 := Scalar.muli v5 c4_i32_404
  let v598 : BitVec 32 := Scalar.addi v596 v597
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_405 : BitVec 32 := 1#32
  let v599 : BitVec 32 := Scalar.muli v10 c1_i32_405
  let v600 : BitVec 32 := Scalar.addi v598 v599
  v600.toNat
def k0_dev32 (d0 : Dev nD) : Nat :=
  let c0_i32_421 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_420 : BitVec 32 := 16#32
  let v619 : BitVec 32 := Scalar.muli v2 c16_i32_420
  let v620 : BitVec 32 := Scalar.addi c0_i32_421 v619
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_422 : BitVec 32 := 4#32
  let v621 : BitVec 32 := Scalar.muli v5 c4_i32_422
  let v622 : BitVec 32 := Scalar.addi v620 v621
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_423 : BitVec 32 := 1#32
  let v623 : BitVec 32 := Scalar.muli v10 c1_i32_423
  let v624 : BitVec 32 := Scalar.addi v622 v623
  v624.toNat
def k0_dev33 (d0 : Dev nD) : Nat :=
  let c0_i32_439 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_438 : BitVec 32 := 16#32
  let v643 : BitVec 32 := Scalar.muli v2 c16_i32_438
  let v644 : BitVec 32 := Scalar.addi c0_i32_439 v643
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_440 : BitVec 32 := 4#32
  let v645 : BitVec 32 := Scalar.muli v5 c4_i32_440
  let v646 : BitVec 32 := Scalar.addi v644 v645
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_441 : BitVec 32 := 1#32
  let v647 : BitVec 32 := Scalar.muli v10 c1_i32_441
  let v648 : BitVec 32 := Scalar.addi v646 v647
  v648.toNat
def k0_dev34 (d0 : Dev nD) : Nat :=
  let c0_i32_457 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_456 : BitVec 32 := 16#32
  let v667 : BitVec 32 := Scalar.muli v2 c16_i32_456
  let v668 : BitVec 32 := Scalar.addi c0_i32_457 v667
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_458 : BitVec 32 := 4#32
  let v669 : BitVec 32 := Scalar.muli v5 c4_i32_458
  let v670 : BitVec 32 := Scalar.addi v668 v669
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_459 : BitVec 32 := 1#32
  let v671 : BitVec 32 := Scalar.muli v10 c1_i32_459
  let v672 : BitVec 32 := Scalar.addi v670 v671
  v672.toNat
def k0_off7 (d0 : Dev nD) (c0_i32_463 : BitVec 32) : Fin 2 → Nat :=
  let c1_i32_12 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v28 : BitVec 32 := Scalar.subi c1_i32_12 v2
  let c2048_i32_13 : BitVec 32 := 2048#32
  let v29 : BitVec 32 := Scalar.muli v28 c2048_i32_13
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v30 : BitVec 32 := Scalar.subi c1_i32_14 v20
  let c1024_i32_15 : BitVec 32 := 1024#32
  let v31 : BitVec 32 := Scalar.muli v30 c1024_i32_15
  let v32 : BitVec 32 := Scalar.addi v29 v31
  let v680 : BitVec 32 := Scalar.addi v32 c0_i32_463
  let c0_i32_470 : BitVec 32 := 0#32
  ![v680.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Steps.lean ====
/-
# The kernel's body, told by chunks

The printed body addresses sixteen chunks of 64 rows one after another, each spelled out. Here the same program is
written with the chunk's number as a variable: what is done with chunk `k`, and the order of the chunks. The last
theorem says that the printed body is this program.
-/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

/-- A program of the kernel's, giving nothing back. -/
abbrev P0 (F : FTy → Type) : Type 1 := Prog (TpuEff nD τ sig (Elt F) Λ₀ .tc) PUnit

theorem one_inb : ∀ (k : Fin 16) (a : Fin 1), (![k.val] : Fin 1 → Nat) a + S1.size a ≤ S16.size a := by decide

/-- Semaphore `k` of an array of sixteen. -/
abbrev semAt (a : DmaSems sig S16) (k : Fin 16) : DmaSem sig :=
  ((a.slice (Rect.unit (s := S16) ![k.val] S1.size (one_inb k))).squeeze S_ squeezes_S1_S_).sem

/-- The staged argument and the staged result. -/
abbrev xM : Memref sig .tc .vmem S2048x512 .bf16 := Memref.whole cc0_stg0_0
abbrev oM : Memref sig .tc .vmem S4096x512 .bf16 := Memref.whole cc0_stg1_0

theorem oM_whole : oM.IsWhole := Memref.isWhole_whole _

/-- The number of the chunk's first row, counted from its region's, as the program computes it. -/
abbrev wd (k : Fin 16) : BitVec 32 := BitVec.ofNat 32 (64 * k.val)

/-- Chunk `k` of what a device sends along `x`, of what it receives along `x`, of what it receives along `z`. -/
abbrev sendRect (c : Dev nD) (k : Fin 16) : Rect S4096x512 := Rect.unit (s := S4096x512) (k0_off3 c (wd k)) S64x512.size (k0_off3_inb c k)
abbrev passRect (c : Dev nD) (k : Fin 16) : Rect S4096x512 := Rect.unit (s := S4096x512) (k0_off6 c (wd k)) S64x512.size (k0_off6_inb c k)
abbrev lastRect (c : Dev nD) (k : Fin 16) : Rect S4096x512 := Rect.unit (s := S4096x512) (k0_off7 c (wd k)) S64x512.size (k0_off7_inb c k)
abbrev sendM (c : Dev nD) (k : Fin 16) : Memref sig .tc .vmem S64x512 .bf16 := oM.slice (sendRect c k) (fun _ => rfl)
abbrev passM (c : Dev nD) (k : Fin 16) : Memref sig .tc .vmem S64x512 .bf16 := oM.slice (passRect c k) (fun _ => rfl)
abbrev lastM (c : Dev nD) (k : Fin 16) : Memref sig .tc .vmem S64x512 .bf16 := oM.slice (lastRect c k) (fun _ => rfl)

theorem sendM_words (c : Dev nD) (k : Fin 16) : (sendM c k).view.WordExact := oM_whole.wordExact_slice rfl _ (k0_off3_wordsbf16 c k)
theorem passM_words (c : Dev nD) (k : Fin 16) : (passM c k).view.WordExact := oM_whole.wordExact_slice rfl _ (k0_off6_wordsbf16 c k)
theorem lastM_words (c : Dev nD) (k : Fin 16) : (lastM c k).view.WordExact := oM_whole.wordExact_slice rfl _ (k0_off7_wordsbf16 c k)

/-- The four arrays' semaphores for chunk `k`: sent along `x`, received along `x`, sent along `z`, received along `z`. -/
abbrev xs (k : Fin 16) : DmaSem sig := semAt cc0_scratch0 k
abbrev xr (k : Fin 16) : DmaSem sig := semAt cc0_scratch1 k
abbrev zs (k : Fin 16) : DmaSem sig := semAt cc0_scratch2 k
abbrev zr (k : Fin 16) : DmaSem sig := semAt cc0_scratch3 k

/-- The devices the program names: the one across `x`, the one across `z`. -/
abbrev xDev (c : Dev nD) : Dev nD := ⟨k0_dev3 c, k0_dev3_lt c⟩
abbrev zDev (c : Dev nD) : Dev nD := ⟨k0_dev19 c, k0_dev19_lt c⟩

/-- Start sending chunk `k` along `x`. -/
def sendX (c : Dev nD) (k : Fin 16) : P0 F :=
  Prog.lift (.enqueueDma (sendM c k) (.remote (Dev.tc (xDev c)) (sendM c k) (.dma (xs k))) (.dma (xr k)) (sendM_words c k) (sendM_words c k) ⟨⟨rfl, Or.inl rfl⟩, trivial⟩)

/-- Wait for chunk `k` from across `x`. -/
def waitX (c : Dev nD) (k : Fin 16) : P0 F :=
  Prog.lift (.waitDma2 (xr k) (sendM c k) (sendM c k) (sendM_words c k) (sendM_words c k))

/-- Start passing chunk `k` on along `z`. -/
def sendZ (c : Dev nD) (k : Fin 16) : P0 F :=
  Prog.lift (.enqueueDma (passM c k) (.remote (Dev.tc (zDev c)) (passM c k) (.dma (zs k))) (.dma (zr k)) (passM_words c k) (passM_words c k) ⟨⟨rfl, Or.inl rfl⟩, trivial⟩)

/-- Wait for chunk `k` from across `z`. -/
def waitZ (c : Dev nD) (k : Fin 16) : P0 F :=
  Prog.lift (.waitDma2 (zr k) (lastM c k) (lastM c k) (lastM_words c k) (lastM_words c k))

/-- Wait until chunk `k` has left along `x`; along `z`. -/
def leftX (c : Dev nD) (k : Fin 16) : P0 F :=
  Prog.lift (.waitDma2 (xs k) (sendM c k) (sendM c k) (sendM_words c k) (sendM_words c k))
def leftZ (c : Dev nD) (k : Fin 16) : P0 F :=
  Prog.lift (.waitDma2 (zs k) (passM c k) (passM c k) (passM_words c k) (passM_words c k))

/-- Do `f` at each chunk of the list, in its order. -/
def each (f : Fin 16 → P0 F) : List (Fin 16) → P0 F
  | [] => pure ⟨⟩
  | k :: ks => f k >>= fun _ => each f ks

/-- The first eight chunks, the last eight, all sixteen. -/
abbrev lo8 : List (Fin 16) := [0, 1, 2, 3, 4, 5, 6, 7]
abbrev hi8 : List (Fin 16) := [8, 9, 10, 11, 12, 13, 14, 15]
abbrev all16 : List (Fin 16) := [0, 1, 2, 3, 4, 5, 6, 7, 8, 9, 10, 11, 12, 13, 14, 15]

/-- The entry handshake: a unit to each of the two devices, then two units awaited. -/
abbrev barS : Sem sig := (SemArray.scalar (sig.barrier 0 rfl) : Sems sig S_).sem
def handshake (c : Dev nD) : P0 F := do
  semSignalWord (⟨k0_dev1 c, k0_dev1_lt c⟩ : Dev nD) barS 1#32
  semSignalWord (⟨k0_dev2 c, k0_dev2_lt c⟩ : Dev nD) barS 1#32
  semWaitWord barS 2#32

/-- The copies of the argument's rows into the result: half `r` of the rows to be sent, then the other rows. -/
abbrev halfW (r : Fin 2) : BitVec 32 := BitVec.ofNat 32 (512 * r.val)
abbrev srcRect (c : Dev nD) (r : Fin 2) : Rect S2048x512 := Rect.unit (s := S2048x512) (k0_off1 c (halfW r)) S512x512.size (k0_off1_inb c r)
abbrev dstRect (c : Dev nD) (r : Fin 2) : Rect S4096x512 := Rect.unit (s := S4096x512) (k0_off2 c (halfW r)) S512x512.size (k0_off2_inb c r)
abbrev srcRest (c : Dev nD) : Rect S2048x512 := Rect.unit (s := S2048x512) (k0_off4 c) S1024x512.size (k0_off4_inb c)
abbrev dstRest (c : Dev nD) : Rect S4096x512 := Rect.unit (s := S4096x512) (k0_off5 c) S1024x512.size (k0_off5_inb c)
def copyHalf (c : Dev nD) (r : Fin 2) (pay : Vec F S512x512 .bf16 → FVec F S512x512 .bf16) : P0 F := do
  let v : Vec F S512x512 .bf16 ← Prog.lift (.load xM (srcRect c r).toLoadRect (View.loadsAt_vmem h_S512x512))
  let _ : Vec F S512x512 .bf16 ← Prog.lift (.load oM (dstRect c r).toLoadRect (View.loadsAt_vmem h_S512x512))
  Prog.lift (.store oM (dstRect c r) (pay v) Finset.univ (View.stores_vmem h_S512x512 (oM_whole.storeExact_slice rfl _ (k0_off2_packedbf16 c r)) (fun _ => rfl)) (.inl rfl))
def copyRest (c : Dev nD) : P0 F := do
  let v : Vec F S1024x512 .bf16 ← Prog.lift (.load xM (srcRest c).toLoadRect (View.loadsAt_vmem h_S1024x512))
  let _ : Vec F S1024x512 .bf16 ← Prog.lift (.load oM (dstRest c).toLoadRect (View.loadsAt_vmem h_S1024x512))
  Prog.lift (.store oM (dstRest c) (k0_pay3 v) Finset.univ (View.stores_vmem h_S1024x512 (oM_whole.storeExact_slice rfl _ (k0_off5_packedbf16 c)) (fun _ => rfl)) (.inl rfl))

/-- The body after the device has read its number. -/
def told (c : Dev nD) : P0 F := do
  handshake c
  copyHalf c 0 k0_pay1
  each (sendX c) lo8
  copyHalf c 1 k0_pay2
  each (sendX c) hi8
  copyRest c
  each (fun k => waitX c k >>= fun _ => sendZ c k) all16
  each (waitZ c) all16
  each (fun k => leftX c k >>= fun _ => leftZ c k) all16

/-- The printed body, at the buffers the launch gives it. -/
abbrev printed : P0 F :=
  cc0_body xM (Memref.isWhole_whole _) oM (Memref.isWhole_whole _) cc0_scratch0 cc0_scratch1 cc0_scratch2 cc0_scratch3

set_option maxRecDepth 65536 in
/-- The printed body is the program told by chunks. -/
theorem printed_eq : printed (F := F) = (Prog.lift .deviceId >>= told) := by
  chain_rfl

end Cert.KernelIdeal.Hand

end
-- ==== Proof.Rows.lean ====
/-
# Who talks to whom, and which rows hold what

Each device talks to the device across the first axis of the mesh and to the device next to it along the last. This
module names these two, the rows of the result each chunk of the kernel's copies covers, and what each row of the result
is to hold in the end.
-/
module

public import proofs.«01_k».proof.Proof.Steps
public import Idealize.ShloMosaic.Lib.ValueIdx

@[expose] public section

noncomputable section

namespace Cert.KernelIdeal.Hand

open Cert.KernelIdeal Cert.KernelIdeal.Gen
open Idealize.ShloMosaic Idealize.ShloMosaic.TcCoe Idealize.SL Idealize.SL.Sem

variable {F : FTy → Type} [FloatOps F]

/-! ## The two peers -/

set_option backward.proofsInPublic true in
/-- The device across the first axis. -/
def xp (c : Dev nD) : Dev nD := ⟨(c.val + 16) % 32, Nat.mod_lt _ (by decide)⟩

theorem flip_lt : ∀ c : Dev nD, 2 * (c.val / 2) + (1 - c.val % 2) < 32 := by decide
set_option backward.proofsInPublic true in
/-- The neighbour along the last axis: positions 0 and 1 are a pair, and 2 and 3. -/
def zp (c : Dev nD) : Dev nD := ⟨2 * (c.val / 2) + (1 - c.val % 2), flip_lt c⟩

theorem xp_xp : ∀ c : Dev nD, xp (xp c) = c := by decide
theorem zp_zp : ∀ c : Dev nD, zp (zp c) = c := by decide
theorem xp_ne_zp : ∀ c : Dev nD, xp c ≠ zp c := by decide
theorem xp_side : ∀ c : Dev nD, (xp c).val / 16 = 1 - c.val / 16 := by decide
theorem xp_half : ∀ c : Dev nD, (xp c).val % 2 = c.val % 2 := by decide
theorem zp_side : ∀ c : Dev nD, (zp c).val / 16 = c.val / 16 := by decide
theorem zp_half : ∀ c : Dev nD, (zp c).val % 2 = 1 - c.val % 2 := by decide

/-- Each peer map as a permutation of the devices. -/
def xpE : Dev nD ≃ Dev nD := ⟨xp, xp, xp_xp, xp_xp⟩
def zpE : Dev nD ≃ Dev nD := ⟨zp, zp, zp_zp, zp_zp⟩

/-- The devices the program computes are these two. -/
theorem dev1_eq : ∀ c : Dev nD, (⟨k0_dev1 c, k0_dev1_lt c⟩ : Dev nD) = xp c := by decide +kernel
theorem dev2_eq : ∀ c : Dev nD, (⟨k0_dev2 c, k0_dev2_lt c⟩ : Dev nD) = zp c := by decide +kernel
theorem xDev_eq : ∀ c : Dev nD, xDev c = xp c := by decide +kernel
theorem zDev_eq : ∀ c : Dev nD, zDev c = zp c := by decide +kernel

/-! ## The four quarters of a result, and their chunks -/

/-- First rows of the quarters of device `c`'s result: the rows it sends along `x`; the other rows it starts from; the
    rows it receives along `x` and passes on along `z`; the rows it receives along `z`. -/
def sendRow (c : Dev nD) : ℕ := 2048 * (c.val / 16) + 1024 * (c.val % 2)
def keepRow (c : Dev nD) : ℕ := 2048 * (c.val / 16) + 1024 * (1 - c.val % 2)
def passRow (c : Dev nD) : ℕ := 2048 * (1 - c.val / 16) + 1024 * (c.val % 2)
def lastRow (c : Dev nD) : ℕ := 2048 * (1 - c.val / 16) + 1024 * (1 - c.val % 2)

theorem pass_xp (c : Dev nD) : passRow (xp c) = sendRow c := by
  have := xp_side c; have := xp_half c; have := c.isLt; unfold passRow sendRow; change c.val < 32 at *; omega
theorem last_zp (c : Dev nD) : lastRow (zp c) = passRow c := by
  have := zp_side c; have := zp_half c; have := c.isLt; unfold lastRow passRow; change c.val < 32 at *; omega

theorem off1_eq : ∀ (c : Dev nD) (r : Fin 2), k0_off1 c (halfW r) = ![1024 * (c.val % 2) + 512 * r.val, 0] := by decide +kernel
theorem off2_eq : ∀ (c : Dev nD) (r : Fin 2), k0_off2 c (halfW r) = ![sendRow c + 512 * r.val, 0] := by decide +kernel
theorem off3_eq : ∀ (c : Dev nD) (k : Fin 16), k0_off3 c (wd k) = ![sendRow c + 64 * k.val, 0] := by decide +kernel
theorem off4_eq : ∀ c : Dev nD, k0_off4 c = ![1024 * (1 - c.val % 2), 0] := by decide +kernel
theorem off5_eq : ∀ c : Dev nD, k0_off5 c = ![keepRow c, 0] := by decide +kernel
theorem off6_eq : ∀ (c : Dev nD) (k : Fin 16), k0_off6 c (wd k) = ![passRow c + 64 * k.val, 0] := by decide +kernel
theorem off7_eq : ∀ (c : Dev nD) (k : Fin 16), k0_off7 c (wd k) = ![lastRow c + 64 * k.val, 0] := by decide +kernel

/-- The elements of a result in its rows from `b`, `n` of them. -/
def rows (b n : ℕ) : Finset S4096x512.Idx := Finset.univ.filter fun i => b ≤ (i 0).val ∧ (i 0).val < b + n

theorem mem_rows {b n : ℕ} {i : S4096x512.Idx} : i ∈ rows b n ↔ b ≤ (i 0).val ∧ (i 0).val < b + n := by
  unfold rows; rw [Finset.mem_filter]; exact ⟨fun h => h.2, fun h => ⟨Finset.mem_univ _, h⟩⟩

/-- A rectangle of whole rows covers those rows. -/
theorem rect_rows {off size : Fin 2 → ℕ} {inb} {b n : ℕ} (h : off = ![b, 0]) (hs : size = ![n, 512]) :
    (Rect.unit (s := S4096x512) off size inb).set = rows b n := by
  subst h hs
  ext i
  rw [Rect.mem_set_unit, mem_rows]
  have h1 : (i 1).val < 512 := (i 1).isLt
  constructor
  · intro h; exact h 0
  · intro h a
    match a with
    | ⟨0, _⟩ => exact h
    | ⟨1, _⟩ => exact ⟨Nat.zero_le _, by show (i 1).val < 0 + 512; omega⟩

theorem send_set (c : Dev nD) (k : Fin 16) : (sendM c k).view.set = rows (sendRow c + 64 * k.val) 64 :=
  (View.set_slice_whole _ _).trans (rect_rows (off3_eq c k) rfl)
theorem pass_set (c : Dev nD) (k : Fin 16) : (passM c k).view.set = rows (passRow c + 64 * k.val) 64 :=
  (View.set_slice_whole _ _).trans (rect_rows (off6_eq c k) rfl)
theorem half_set (c : Dev nD) (r : Fin 2) : (oM.access (dstRect c r)).set = rows (sendRow c + 512 * r.val) 512 :=
  (View.set_slice_whole _ _).trans (rect_rows (off2_eq c r) rfl)
theorem rest_set (c : Dev nD) : (oM.access (dstRest c)).set = rows (keepRow c) 1024 :=
  (View.set_slice_whole _ _).trans (rect_rows (off5_eq c) rfl)

/-- Rows apart from one another hold no element in common. -/
theorem rows_disjoint {b n b' n' : ℕ} (h : b + n ≤ b' ∨ b' + n' ≤ b) : Disjoint (rows b n) (rows b' n') :=
  Finset.disjoint_left.mpr fun i hi hi' => by
    rw [mem_rows] at hi hi'; omega

/-- Rows one after another, together. -/
theorem rows_append (b n n' : ℕ) : rows b n ∪ rows (b + n) n' = rows b (n + n') := by
  ext i; rw [Finset.mem_union, mem_rows, mem_rows, mem_rows]; omega

/-- A stretch of rows is its chunks of 64, numbered by a list of the numbers from `lo` to before `hi`. -/
theorem rows_chunks (b lo hi : ℕ) (ks : List (Fin 16)) (hk : ∀ k, k ∈ ks ↔ lo ≤ k.val ∧ k.val < hi) (hh : hi ≤ 16) :
    ks.toFinset.biUnion (fun k : Fin 16 => rows (b + 64 * k.val) 64) = rows (b + 64 * lo) (64 * (hi - lo)) := by
  ext i
  rw [Finset.mem_biUnion, mem_rows]
  constructor
  · rintro ⟨k, hm, hi'⟩
    have := (hk k).mp (List.mem_toFinset.mp hm)
    rw [mem_rows] at hi'; omega
  · intro h
    have hlt : ((i 0).val - b) / 64 < 16 := by omega
    refine ⟨⟨((i 0).val - b) / 64, hlt⟩, List.mem_toFinset.mpr ((hk _).mpr ?_), mem_rows.mpr ?_⟩
    · show lo ≤ ((i 0).val - b) / 64 ∧ ((i 0).val - b) / 64 < hi
      omega
    · show b + 64 * (((i 0).val - b) / 64) ≤ (i 0).val ∧ (i 0).val < b + 64 * (((i 0).val - b) / 64) + 64
      omega

theorem chunks_disjoint (b : ℕ) (k k' : Fin 16) (h : k ≠ k') : Disjoint (rows (b + 64 * k.val) 64) (rows (b + 64 * k'.val) 64) :=
  rows_disjoint (by have := Fin.val_ne_of_ne h; omega)

theorem mem_lo8 : ∀ k : Fin 16, k ∈ lo8 ↔ 0 ≤ k.val ∧ k.val < 8 := by decide
theorem mem_hi8 : ∀ k : Fin 16, k ∈ hi8 ↔ 8 ≤ k.val ∧ k.val < 16 := by decide
theorem mem_all16 : ∀ k : Fin 16, k ∈ all16 ↔ 0 ≤ k.val ∧ k.val < 16 := by decide

/-- The whole result is its four quarters. -/
theorem rows_quarters (c : Dev nD) :
    (Finset.univ : Finset S4096x512.Idx) = rows (sendRow c) 1024 ∪ (rows (keepRow c) 1024 ∪ (rows (passRow c) 1024 ∪ rows (lastRow c) 1024)) := by
  ext i
  have hi : (i 0).val < 4096 := (i 0).isLt
  have hc : c.val < 32 := c.isLt
  rw [Finset.mem_union, Finset.mem_union, Finset.mem_union, mem_rows, mem_rows, mem_rows, mem_rows]
  unfold sendRow keepRow passRow lastRow
  refine ⟨fun _ => ?_, fun _ => Finset.mem_univ i⟩
  omega

theorem quarters_disjoint (c : Dev nD) :
    Disjoint (rows (sendRow c) 1024) (rows (keepRow c) 1024 ∪ (rows (passRow c) 1024 ∪ rows (lastRow c) 1024))
      ∧ Disjoint (rows (keepRow c) 1024) (rows (passRow c) 1024 ∪ rows (lastRow c) 1024)
      ∧ Disjoint (rows (passRow c) 1024) (rows (lastRow c) 1024) := by
  have hc : c.val < 32 := c.isLt
  refine ⟨?_, ?_, rows_disjoint ?_⟩
  · rw [Finset.disjoint_union_right, Finset.disjoint_union_right]
    refine ⟨rows_disjoint ?_, rows_disjoint ?_, rows_disjoint ?_⟩ <;> (unfold sendRow; first | unfold keepRow | unfold passRow | unfold lastRow) <;> omega
  · rw [Finset.disjoint_union_right]
    refine ⟨rows_disjoint ?_, rows_disjoint ?_⟩ <;> (unfold keepRow; first | unfold passRow | unfold lastRow) <;> omega
  · unfold passRow lastRow; omega

/-! ## What each row is to hold -/

/-- The device whose argument row `r` of device `c`'s result comes from: itself, across `x`, or by way of the
    neighbour along `z`. -/
def from_ (c : Dev nD) (r : ℕ) : Dev nD :=
  if r / 2048 = c.val / 16 then c else if r % 2048 / 1024 = c.val % 2 then xp c else xp (zp c)

/-- An index of the argument's shape: row `r` of 2048, column of `i`. -/
def atRow (i : S4096x512.Idx) : S2048x512.Idx := ValueIdx.ix2 (⟨(i 0).val % 2048, Nat.mod_lt _ (by decide)⟩ : Fin 2048) (i 1 : Fin 512)

/-- What device `c`'s result is to hold when device `d`'s argument holds `x d`. -/
def gathered (x : Dev nD → S2048x512.Idx → Elt F .bf16) (c : Dev nD) : S4096x512.Idx → Elt F .bf16 :=
  fun i => x (from_ c (i 0).val) (atRow i)

omit [FloatOps F] in
/-- The rows a device sends along `x` are to hold the same at both ends. -/
theorem gathered_x (x : Dev nD → S2048x512.Idx → Elt F .bf16) (c : Dev nD) (i : S4096x512.Idx) (hi : i ∈ rows (sendRow c) 1024) :
    gathered x (xp c) i = gathered x c i := by
  have hs := xp_side c; have hh := xp_half c; have hc : c.val < 32 := c.isLt
  rw [mem_rows] at hi; unfold sendRow at hi
  unfold gathered from_
  rw [if_pos (show (i 0).val / 2048 = c.val / 16 by omega), if_neg (by omega), if_pos (by omega), xp_xp]

omit [FloatOps F] in
/-- The rows a device passes on along `z` are to hold the same at both ends. -/
theorem gathered_z (x : Dev nD → S2048x512.Idx → Elt F .bf16) (c : Dev nD) (i : S4096x512.Idx) (hi : i ∈ rows (passRow c) 1024) :
    gathered x (zp c) i = gathered x c i := by
  have hs := zp_side c; have hh := zp_half c; have hc : c.val < 32 := c.isLt
  rw [mem_rows] at hi; unfold passRow at hi
  unfold gathered from_
  rw [if_neg (show ¬ (i 0).val / 2048 = (zp c).val / 16 by omega), if_neg (show ¬ (i 0).val % 2048 / 1024 = (zp c).val % 2 by omega),
    if_neg (show ¬ (i 0).val / 2048 = c.val / 16 by omega), if_pos (show (i 0).val % 2048 / 1024 = c.val % 2 by omega), zp_zp]

theorem shapeCast_refl {s : Shape} {α : Type} (v : s.Idx → α) (h : s.ShapeCasts s) : shapeCast s v h = v :=
  funext fun i => congrArg v (Shape.reshapeEquiv_self h i)

omit [FloatOps F] in
/-- Rows of the argument, read off at row `a` and stored at the row `b` of the same device's block, are what those rows
    of the result are to hold. -/
theorem copied (x : Dev nD → S2048x512.Idx → Elt F .bf16) (c : Dev nD) (f : S4096x512.Idx → Elt F .bf16)
    {offS offD size : Fin 2 → ℕ} {inbS inbD} {a b n : ℕ} (hS : offS = ![a, 0]) (hD : offD = ![b, 0]) (hn : size = ![n, 512])
    (hb : b = 2048 * (c.val / 16) + a) (hl : a + n ≤ 2048)
    (i : S4096x512.Idx) (hi : i ∈ rows b n) :
    (oM.access (Rect.unit (s := S4096x512) offD size inbD)).write (Elt F) f
        (xM.view.readAt (Elt F) (Rect.unit (s := S2048x512) offS size inbS).toLoadRect (x c)) Finset.univ i = gathered x c i := by
  subst hS hD hn
  have hi' := hi
  rw [← rect_rows (inb := inbD) rfl rfl] at hi
  obtain ⟨j, rfl⟩ : ∃ j, (oM.access (Rect.unit (s := S4096x512) ![b, 0] ![n, 512] inbD)).emb j = i := by
    rw [← View.set_slice_whole cc0_stg1_0] at hi
    obtain ⟨j, -, h⟩ := Finset.mem_map.mp hi
    exact ⟨j, h⟩
  rw [View.write_emb_of_mem _ _ (Finset.mem_univ j)]
  have hj0 : (j 0).val < n := (j 0).isLt
  show x c _ = x (from_ c _) (atRow _)
  have e0 : ((oM.access (Rect.unit (s := S4096x512) ![b, 0] ![n, 512] inbD)).emb j 0).val = b + 1 * (j 0).val := rfl
  have hf : from_ c ((oM.access (Rect.unit (s := S4096x512) ![b, 0] ![n, 512] inbD)).emb j 0).val = c := by
    unfold from_; rw [e0]; exact if_pos (by omega)
  rw [hf]
  congr 1
  funext d
  match d with
  | ⟨0, _⟩ =>
    apply Fin.ext
    show a + 1 * (j 0).val = _ % 2048
    rw [e0]; omega
  | ⟨1, _⟩ => rfl

/-- Contents read off a view and written back through it, over any others, are there again. -/
theorem moved {sp : CoreSpace} {s : Shape} {e : EltTy} (v : View sig .tc sp s e) (fd fs : v.ty.Contents (Elt F)) (i : v.ty.Idx) (hi : i ∈ v.set) :
    v.write (Elt F) fd (v.read (Elt F) fs) Finset.univ i = fs i := by
  obtain ⟨j, -, rfl⟩ := Finset.mem_map.mp hi
  rw [View.write_emb_of_mem _ _ (Finset.mem_univ j), View.read_apply, cast_cast, cast_eq]

end Cert.KernelIdeal.Hand

end
-- ==== Proof.Sched.lean ====
/-
# The schedule of the kernel's semaphores

Each device has a barrier cell and sixty-four cells of its copies, one for each chunk and each of the four arrays of
semaphores. This module says who raises each cell, by how much, and what rows of a result come with it, with what they
hold; and in what order the cells may be waited for.
-/
module

public import proofs.«01_k».proof.Proof.Rows
public import Idealize.ShloMosaic.Lib.Pipeline.Launch
public import Idealize.ShloMosaic.Lib.Pipeline.BigSepL
public import Idealize.ShloMosaic.Lib.Rounds.Family
public import Idealize.ShloMosaic.Lib.Tactic

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- Which of the four arrays, and which chunk. -/
abbrev CK : Type := Fin 4 × Fin 16

abbrev arrOf : Fin 4 → DmaSems sig S16 := fun | 0 => cc0_scratch0 | 1 => cc0_scratch1 | 2 => cc0_scratch2 | 3 => cc0_scratch3
/-- The semaphore of one array and chunk, and all the semaphores of the protocol: the barrier is `none`. -/
abbrev osem (q : CK) : SemLoc sig := .dma (semAt (arrOf q.1) q.2)
abbrev csem : Option CK → SemLoc sig := fun | none => .reg barS | some q => osem q
/-- Device `c`'s cell of each. -/
abbrev kcell (c : Dev nD) (o : Option CK) : GSem nD τ sig := ((c : Thread nD τ), csem o)

/-- Which of the protocol's semaphores a semaphore is, if any. -/
def kind : SemLoc sig → Option (Option CK)
  | .reg _ => some none
  | .dma q => if 2 ≤ q.val then some (some (⟨(q.val - 2) / 16 % 4, Nat.mod_lt _ (by decide)⟩, ⟨(q.val - 2) % 16, Nat.mod_lt _ (by decide)⟩)) else none

theorem kind_osem : ∀ (a : Fin 4) (k : Fin 16), kind (osem (a, k)) = some (some (a, k)) := by decide +kernel
theorem kind_csem (o : Option CK) : kind (csem o) = some o := by
  cases o with
  | none => rfl
  | some q => exact kind_osem q.1 q.2

theorem kcell_injective : Function.Injective (fun p : Dev nD × Option CK => kcell p.1 p.2) := by
  rintro ⟨c, o⟩ ⟨c', o'⟩ h
  have h1 : c = c' := congrArg (fun g : GSem nD τ sig => g.1.1) h
  have h2 : kind (csem o) = kind (csem o') := congrArg (fun g : GSem nD τ sig => kind g.2) h
  rw [kind_csem, kind_csem] at h2
  rw [h1, Option.some.inj h2]

theorem kcell_eq_iff {c c' : Dev nD} {o o' : Option CK} : Iff (kcell c o = kcell c' o') (c = c' ∧ o = o') :=
  ⟨fun h => by have := kcell_injective (a₁ := (c, o)) (a₂ := (c', o')) h; exact ⟨congrArg Prod.fst this, congrArg Prod.snd this⟩, fun h => by rw [h.1, h.2]⟩

/-- What one chunk's copy adds to its semaphores. -/
abbrev N : ℕ := (sendM 0 0).view.dmaCredit
theorem N_pos : 0 < N := View.dmaCredit_pos _ (by decide)

/-! ## Rows of a result, owned -/

/-- Device `c`'s rows from `b`, `n` of them, at the contents `f`. -/
def part (c : Dev nD) (b n : ℕ) (f : S4096x512.Idx → Elt F .bf16) : sProp 𝕄 :=
  ((c : Thread nD τ).loc cc0_stg1_0) ↦[rows b n]{fullShare} f

instance part_storable (c : Dev nD) (b n : ℕ) (f : S4096x512.Idx → Elt F .bf16) : BI.Storable (upEmb : UEmb _ 𝕄) (part c b n f) := by
  unfold part; infer_instance

omit [FloatOps F] in
theorem part_congr (c : Dev nD) (b n : ℕ) {f g : S4096x512.Idx → Elt F .bf16} (h : ∀ i ∈ rows b n, f i = g i) : (part c b n f : sProp 𝕄) = part c b n g := by
  unfold part; exact pointsTo_congr h

/-- The first row of a device's rows that come with a cell of array `a`. -/
def rowOf (c : Dev nD) : Fin 4 → ℕ := fun | 0 => sendRow c | 1 => passRow c | 2 => passRow c | 3 => lastRow c

/-- Chunk `k` of the rows from `b`. -/
abbrev chunk (c : Dev nD) (b : ℕ) (k : Fin 16) (f : S4096x512.Idx → Elt F .bf16) : sProp 𝕄 := part c (b + 64 * k.val) 64 f

/-- The chunks of a list, at any contents. -/
abbrev room (c : Dev nD) (b : ℕ) : sProp 𝕄 := bigSepL all16 fun k => iprop(∃ f, chunk (F := F) c b k f)

omit [FloatOps F] in
theorem bigSepL_storable {I : Type} (l : List I) (Φ : I → sProp 𝕄) [h : ∀ i, BI.Storable (upEmb : UEmb _ 𝕄) (Φ i)] :
    BI.Storable (upEmb : UEmb _ 𝕄) (bigSepL l Φ) := by
  induction l with
  | nil => exact (inferInstance : BI.Storable (upEmb : UEmb _ 𝕄) (iprop(emp) : sProp 𝕄))
  | cons i l ih => rw [bigSepL_cons']; infer_instance

instance room_storable (c : Dev nD) (b : ℕ) : BI.Storable (upEmb : UEmb _ 𝕄) (room (F := F) c b) :=
  bigSepL_storable _ _

omit [FloatOps F] in
theorem eq_of_both {P Q : sProp 𝕄} (h : P ⊣⊢ Q) : P = Q := h.1.antisymm h.2

omit [FloatOps F] in
theorem bigSepL_sep {I : Type} (l : List I) (Φ Ψ : I → sProp 𝕄) :
    bigSepL l (fun i => iprop(Φ i ∗ Ψ i)) = iprop(bigSepL l Φ ∗ bigSepL l Ψ) := by
  classical
  induction l with
  | nil => rw [bigSepL_nil, bigSepL_nil, bigSepL_nil]; exact (equiv_iff.mp BI.sep_emp).symm
  | cons i l ih =>
    rw [bigSepL_cons', bigSepL_cons', bigSepL_cons', ih]
    refine eq_of_both (show iprop((Φ i ∗ Ψ i) ∗ bigSepL l Φ ∗ bigSepL l Ψ) ⊣⊢ iprop((Φ i ∗ bigSepL l Φ) ∗ Ψ i ∗ bigSepL l Ψ) from ⟨?_, ?_⟩)
    · iintro ⟨⟨H1, H2⟩, H3, H4⟩
      isplitl [H1 H3]
      · isplitl [H1] <;> iassumption
      · isplitl [H2] <;> iassumption
    · iintro ⟨⟨H1, H3⟩, H2, H4⟩
      isplitl [H1 H2]
      · isplitl [H1] <;> iassumption
      · isplitl [H3] <;> iassumption

omit [FloatOps F] in
/-- A stretch of rows, owned, is its chunks, owned. -/
theorem part_chunks (c : Dev nD) (b lo hi : ℕ) (ks : List (Fin 16)) (hk : ∀ k, k ∈ ks ↔ lo ≤ k.val ∧ k.val < hi) (hh : hi ≤ 16) (hn : ks.Nodup)
    (f : S4096x512.Idx → Elt F .bf16) :
    (part c (b + 64 * lo) (64 * (hi - lo)) f : sProp 𝕄) = bigSepL ks fun k => chunk c b k f := by
  unfold chunk part
  rw [← rows_chunks b lo hi ks hk hh, pointsTo_biUnion _ _ (fun k _ k' _ h => chunks_disjoint b k k' h)]
  exact bigSep_eq_bigSepL_of_eq ks rfl hn _

omit [FloatOps F] in
theorem part_all (c : Dev nD) (b : ℕ) (f : S4096x512.Idx → Elt F .bf16) :
    (part c b 1024 f : sProp 𝕄) = bigSepL all16 fun k => chunk c b k f := part_chunks c b 0 16 all16 mem_all16 (by decide) (by decide) f
omit [FloatOps F] in
theorem part_lo (c : Dev nD) (b : ℕ) (f : S4096x512.Idx → Elt F .bf16) :
    (part c b 512 f : sProp 𝕄) = bigSepL lo8 fun k => chunk c b k f := part_chunks c b 0 8 lo8 mem_lo8 (by decide) (by decide) f
omit [FloatOps F] in
theorem part_hi (c : Dev nD) (b : ℕ) (f : S4096x512.Idx → Elt F .bf16) :
    (part c (b + 512) 512 f : sProp 𝕄) = bigSepL hi8 fun k => chunk c b k f := part_chunks c b 8 16 hi8 mem_hi8 (by decide) (by decide) f

omit [FloatOps F] in
/-- Rows followed by more rows. -/
theorem part_append (c : Dev nD) (b n n' : ℕ) (f : S4096x512.Idx → Elt F .bf16) :
    (part c b (n + n') f : sProp 𝕄) = iprop(part c b n f ∗ part c (b + n) n' f) := by
  unfold part
  rw [← rows_append]
  exact eq_of_both (pointsTo_union (rows_disjoint (Or.inl (le_refl _))))

omit [FloatOps F] in
/-- A whole result is its four quarters, in the order sent, kept, passed on, last. -/
theorem whole_quarters (c : Dev nD) (f : S4096x512.Idx → Elt F .bf16) :
    ((((c : Thread nD τ).loc cc0_stg1_0) ↦{fullShare} f) : sProp 𝕄)
      = iprop(part c (sendRow c) 1024 f ∗ part c (keepRow c) 1024 f ∗ part c (passRow c) 1024 f ∗ part c (lastRow c) 1024 f) := by
  obtain ⟨h1, h2, h3⟩ := quarters_disjoint c
  unfold part
  rw [← eq_of_both (pointsTo_union h3), ← eq_of_both (pointsTo_union h2), ← eq_of_both (pointsTo_union h1)]
  congr 1
  exact rows_quarters c

/-! ## The schedule -/

variable (x : Dev nD → S2048x512.Idx → Elt F .bf16)

/-- What the two units of device `c`'s barrier bring: room in the results of its two peers, across `x` for the rows it
    sends, along `z` for the rows it passes on. -/
def barPay (c : Dev nD) (d : Bool) : sProp 𝕄 :=
  if d then room (zp c) (lastRow (zp c)) else room (xp c) (passRow (xp c))

/-- What one copy brings: its chunk of rows holding what they are to hold. -/
def copyPay (c : Dev nD) (q : CK) : sProp 𝕄 := chunk c (rowOf c q.1) q.2 (gathered x c)

omit [FloatOps F] in
instance barPay_storable (c : Dev nD) (d : Bool) : BI.Storable (upEmb : UEmb _ 𝕄) (barPay (F := F) c d) := by
  unfold barPay; split <;> infer_instance
omit [FloatOps F] in
instance copyPay_storable (c : Dev nD) (q : CK) : BI.Storable (upEmb : UEmb _ 𝕄) (copyPay x c q) := by
  unfold copyPay; infer_instance

/-- One round: a barrier cell is raised by one unit from each of two devices, a copy's cell by one copy. -/
def Rd : Rounds.Schedule (GSem nD τ sig) Bool 𝕄 where
  duties g r := if r = 0 then (match kind g.2 with | some none => Finset.univ | some (some _) => {false} | none => ∅) else ∅
  unitless _ := False
  amount g _ _ := match kind g.2 with | some (some _) => N | _ => 1
  payload g _ d := match kind g.2 with | some none => barPay g.1.1 d | some (some q) => copyPay x g.1.1 q | none => iprop(emp)
  amount_pos g _ _ _ := by
    split
    · exact N_pos
    · exact Nat.one_pos

instance Rd_payload_storable (g : GSem nD τ sig) (r : ℕ) (d : Bool) : BI.Storable (upEmb : UEmb _ 𝕄) ((Rd x).payload g r d) := by
  show BI.Storable upEmb (match kind g.2 with | some none => barPay g.1.1 d | some (some q) => copyPay x g.1.1 q | none => iprop(emp))
  split <;> infer_instance

section Facts
variable (c : Dev nD) (q : CK)

omit [FloatOps F] in
theorem duties_bar : (Rd x).duties (kcell c none) 0 = Finset.univ := by dsimp only [Rd]; rw [if_pos rfl, kind_csem]
omit [FloatOps F] in
theorem duties_copy : (Rd x).duties (kcell c (some q)) 0 = {false} := by dsimp only [Rd]; rw [if_pos rfl, kind_csem]
omit [FloatOps F] in
theorem duties_later (g : GSem nD τ sig) : ∀ r, 1 ≤ r → (Rd x).duties g r = ∅ := fun r hr => by dsimp only [Rd]; rw [if_neg (by omega)]
omit [FloatOps F] in
theorem mem_duties_copy : false ∈ (Rd x).duties (kcell c (some q)) 0 := by rw [duties_copy]; exact Finset.mem_singleton_self _
omit [FloatOps F] in
theorem amount_bar (d : Bool) : (Rd x).amount (kcell c none) 0 d = 1 := by dsimp only [Rd]; rw [kind_csem]
omit [FloatOps F] in
theorem amount_copy (d : Bool) : (Rd x).amount (kcell c (some q)) 0 d = N := by dsimp only [Rd]; rw [kind_csem]
omit [FloatOps F] in
theorem payload_bar (d : Bool) : (Rd x).payload (kcell c none) 0 d = barPay c d := by dsimp only [Rd]; rw [kind_csem]
omit [FloatOps F] in
theorem payload_copy (d : Bool) : (Rd x).payload (kcell c (some q)) 0 d = copyPay x c q := by dsimp only [Rd]; rw [kind_csem]

omit [FloatOps F] in
theorem expect_bar : (Rd x).expect (kcell c none) 0 = 2 := by
  unfold Schedule.expect Schedule.amountOf
  rw [duties_bar, Finset.sum_congr rfl fun d _ => amount_bar x c d, Finset.sum_const, Finset.card_univ, Fintype.card_bool, smul_eq_mul]
omit [FloatOps F] in
theorem expect_copy : (Rd x).expect (kcell c (some q)) 0 = N := by
  unfold Schedule.expect Schedule.amountOf; rw [duties_copy, Finset.sum_singleton, amount_copy]

omit [FloatOps F] in
/-- All that a barrier's wait brings. -/
theorem rest_bar : bigSep ((Rd x).duties (kcell c none) 0 \ ∅) (fun d => (Rd x).payload (kcell c none) 0 d)
    = iprop(room (F := F) (xp c) (passRow (xp c)) ∗ room (zp c) (lastRow (zp c))) := by
  rw [Finset.sdiff_empty, duties_bar, bigSep_univ_eq_bigSepL [false, true] (by decide) (by decide), bigSepL_cons', bigSepL_singleton,
    payload_bar, payload_bar]
  rfl
omit [FloatOps F] in
/-- All that a copy's wait brings. -/
theorem rest_copy : bigSep ((Rd x).duties (kcell c (some q)) 0 \ ∅) (fun d => (Rd x).payload (kcell c (some q)) 0 d) = copyPay x c q := by
  rw [Finset.sdiff_empty, duties_copy, bigSep_singleton, payload_copy]

end Facts

/-! ## What a device owes, and the order of waits -/

/-- One copy's credit at each cell of a list. -/
def dues (g : Fin 16 → GSem nD τ sig) : List (Fin 16) → CellTallies nD τ sig Unit
  | [] => 0
  | k :: ks => dues g ks + tallyAt (g k) () N

/-- The cells of chunk `k` a device's copies raise at its peers. -/
abbrev xTo (c : Dev nD) (k : Fin 16) : GSem nD τ sig := kcell (xp c) (some (1, k))
abbrev zTo (c : Dev nD) (k : Fin 16) : GSem nD τ sig := kcell (zp c) (some (3, k))

/-- After the handshake: a copy of every chunk to each peer. -/
def O₂ (c : Dev nD) : CellTallies nD τ sig Unit := dues (zTo c) all16 + dues (xTo c) all16
def O₁ (c : Dev nD) : CellTallies nD τ sig Unit := O₂ c + tallyAt (kcell (zp c) none) () 1
/-- At launch: those, and a unit to each peer's barrier. -/
def O₀ (c : Dev nD) : CellTallies nD τ sig Unit := O₁ c + tallyAt (kcell (xp c) none) () 1

def L (g : GSem nD τ sig) : Finset Unit := if g.1.2 = .tc then {()} else ∅
/-- The barriers come before the cells received along `x`, and these before the cells received along `z`. -/
def lvK : Option (Option CK) → ℕ
  | some none => 1
  | some (some q) => if q.1 = 1 then 2 else if q.1 = 3 then 3 else 0
  | none => 0
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (o : Option CK) : lv (kcell c o) () = lvK (some o) := by unfold lv; rw [kind_csem]

theorem tallyAt_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h; omega

theorem dues_pos {f : Fin 16 → GSem nD τ sig} {ks : List (Fin 16)} {g : GSem nD τ sig} {u : Unit} (h : 0 < dues f ks g u) : ∃ k, g = f k := by
  induction ks with
  | nil => exact absurd h (Nat.lt_irrefl 0)
  | cons k ks ih => exact (add_pos_cases h).elim ih fun h => ⟨k, tallyAt_pos h⟩

theorem O₂_pos {c : Dev nD} {g : GSem nD τ sig} {u : Unit} (h : 0 < O₂ c g u) : (∃ k, g = zTo c k) ∨ ∃ k, g = xTo c k :=
  (add_pos_cases h).elim (fun h => .inl (dues_pos h)) (fun h => .inr (dues_pos h))

theorem lvK_one (k : Fin 16) : 1 < lvK (some (some (1, k))) := by revert k; decide
theorem lvK_three (k : Fin 16) : 2 < lvK (some (some (3, k))) := by revert k; decide

theorem O₀_pos {c : Dev nD} {g : GSem nD τ sig} {u : Unit} (h : 0 < O₀ c g u) : ∃ (d : Dev nD) (o : Option CK), g = kcell d o ∧ 0 < lvK (some o) := by
  rcases add_pos_cases h with h | h
  · rcases add_pos_cases h with h | h
    · rcases O₂_pos h with ⟨k, rfl⟩ | ⟨k, rfl⟩
      · exact ⟨_, _, rfl, Nat.lt_trans (by decide) (lvK_three k)⟩
      · exact ⟨_, _, rfl, Nat.lt_trans (by decide) (lvK_one k)⟩
    · exact ⟨_, _, tallyAt_pos h, by decide⟩
  · exact ⟨_, _, tallyAt_pos h, by decide⟩

omit [FloatOps F] in
/-- A device may wait for a semaphore of level at most `n` while all it owes is to cells above `n`. -/
theorem mayWait (c : Dev nD) (sm : SemLoc sig) (n : ℕ) (O : CellTallies nD τ sig Unit) (h1 : lvK (kind sm) ≤ n)
    (h2 : ∀ (g : GSem nD τ sig) (u : Unit), 0 < O g u → ∃ (d : Dev nD) (o : Option CK), g = kcell d o ∧ n < lvK (some o)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, o, rfl, -⟩ := h2 g u hg; exact Finset.mem_singleton_self _)
    (fun p hp => by rw [Finset.mem_singleton.mp hp]; exact h1)
    (fun g u hg => by obtain ⟨d, o, rfl, h⟩ := h2 g u hg; cases u; rw [lv_kcell]; exact h)

end Cert.KernelIdeal.Hand

end
-- ==== Proof.Moves.lean ====
/-
# One step of the kernel: a copy started, a copy awaited

What starting a chunk's copy costs and gives, what waiting for one costs and gives, and how a step done for one chunk is
done for a list of them.
-/
module

public import proofs.«01_k».proof.Proof.Sched

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Program `p` on device `c` runs safely to an end where `Q` holds. -/
abbrev runs (c : Dev nD) (p : P0 F) (Q : PUnit → sProp 𝕄) : sProp 𝕄 :=
  wp frame (wpE (defs₀ (F := F)) 𝒱₀ (c : Thread nD τ) none) Set.univ p Q

/-- Device `c` owes `O`, whatever it has waited for. -/
def held (c : Dev nD) (O : CellTallies nD τ sig Unit) : sProp 𝕄 := iprop(∃ W, owes (c : Thread nD τ) O W)

variable (x : Dev nD → S2048x512.Idx → Elt F .bf16)

/-- The invariants of all the cells of all the devices, under names `K`, each cell's first round begun. -/
def records (K : Dev nD × Option CK → ℕ) : sProp 𝕄 :=
  iprop((bigSep Finset.univ fun p : Dev nD × Option CK => cellInv ER (Rd x) (K p) (kcell p.1 p.2))
    ∗ bigSep Finset.univ fun p : Dev nD × Option CK => reached ER (kcell p.1 p.2) 0)

instance records_persistent (K : Dev nD × Option CK → ℕ) : BI.Persistent (records x K) := by unfold records; infer_instance

omit [FloatOps F] in
theorem inv_at (K : Dev nD × Option CK → ℕ) (c : Dev nD) (o : Option CK) : records x K ⊢ cellInv ER (Rd x) (K (c, o)) (kcell c o) :=
  (show records x K ⊢ bigSep Finset.univ fun p : Dev nD × Option CK => cellInv ER (Rd x) (K p) (kcell p.1 p.2) from by
    unfold records; iintro ⟨H, -⟩; iexact H).trans (bigSep_elim (Finset.mem_univ (c, o)))
omit [FloatOps F] in
theorem reached_at (K : Dev nD × Option CK → ℕ) (c : Dev nD) (o : Option CK) : records x K ⊢ (reached ER (kcell c o) 0 : sProp 𝕄) :=
  (show records x K ⊢ bigSep Finset.univ fun p : Dev nD × Option CK => (reached ER (kcell p.1 p.2) 0 : sProp 𝕄) from by
    unfold records; iintro ⟨-, H⟩; iexact H).trans (bigSep_elim (Finset.mem_univ (c, o)))

variable (K : Dev nD × Option CK → ℕ)

/-- Waiting for a copy's cell: it brings the copy's rows, holding what they are to hold. -/
theorem wait_copy (c : Dev nD) (q : CK) (O : CellTallies nD τ sig Unit) (s : DmaSem sig) (hs : SemLoc.dma s = osem q)
    (src dst : Memref sig .tc .vmem S64x512 .bf16) (h₁ : src.view.WordExact) (h₂ : dst.view.WordExact) (Q : PUnit → sProp 𝕄) :
    iprop(records x K ∗ cred (tallyAt (kcell c (some q)) () N) ∗ held c O ∗ MayWait (c : Thread nD τ) (osem q) () O ∗ atPos ER (kcell c (some q)) 0 ∅ 0
        ∗ ((held c O ∗ atPos ER (kcell c (some q)) 1 ∅ 0 ∗ copyPay x c q) -∗ Q ⟨⟩))
      ⊢ runs c (Prog.lift (.waitDma2 s src dst h₁ h₂)) Q := by
  obtain rfl : s = semAt (arrOf q.1) q.2 := SemLoc.dma.inj hs
  unfold held runs Prog.lift
  iintro ⟨#HR, Hc, ⟨%W, HO⟩, HM, Hat, Hk⟩
  iapply (Rounds.wp_wait_rest_token 𝒱₀ ER (Rd x) (c : Thread nD τ) none (κ := K (c, some q))
      (wpE_waitDma2_eq 𝒱₀ (c : Thread nD τ) none Set.univ) (Set.mem_univ _) () (O := O) (W := W) (R := 0) (m := 0) (T := ∅)
      (by rw [Nat.zero_add, expect_copy])) $$ [Hc HO HM Hat]
  · isplitr; · iapply (inv_at x K c (some q)); iexact HR
    isplitl [Hc]; · iexact Hc
    isplitl [HO]; · iexact HO
    isplitl [HM]; · iexact HM
    iexact Hat
  iintro ⟨HO, Hat, -, Hpay⟩
  ihave Hp := (Entails.of_eq (rest_copy x c q)) $$ Hpay
  rw [wp_ret]; imodintro
  iapply Hk
  isplitl [HO]; · iexists _; iexact HO
  isplitl [Hat]; · iexact Hat
  iexact Hp

/-- Starting a copy of 64 rows of device `c`'s result into the same rows of device `d`'s: the rows at both ends go, and
    what comes back is the right to wait until the copy has left. -/
theorem start_copy (c d n : Dev nD) (hn : n = d) (q q' : CK) (O : CellTallies nD τ sig Unit) (s s' : DmaSem sig) (hs : SemLoc.dma s = osem q) (hs' : SemLoc.dma s' = osem q')
    (off : Fin 2 → ℕ) (inb : ∀ a, off a + S64x512.size a ≤ S4096x512.size a) (b : ℕ) (hb : off = ![b, 0])
    (h : (oM.slice (Rect.unit (s := S4096x512) off S64x512.size inb) (fun _ => rfl) : Memref sig .tc .vmem S64x512 .bf16).view.WordExact)
    (hq : copyPay x c q = part c b 64 (gathered x c)) (hq' : copyPay x d q' = part d b 64 (gathered x d))
    (hg : ∀ i ∈ rows b 64, gathered x d i = gathered x c i) (Q : PUnit → sProp 𝕄)
    (hsc) (ht) :
    iprop(records x K ∗ part c b 64 (gathered x c) ∗ (∃ f, part d b 64 f) ∗ held c (O + tallyAt (kcell d (some q')) () N)
        ∗ dutyTok ER (kcell c (some q)) 0 false ∗ dutyTok ER (kcell d (some q')) 0 false
        ∗ ((held c O ∗ cred (tallyAt (kcell c (some q)) () N)) -∗ Q ⟨⟩))
      ⊢ runs c (Prog.lift (.enqueueDma (oM.slice (Rect.unit (s := S4096x512) off S64x512.size inb) (fun _ => rfl) : Memref sig .tc .vmem S64x512 .bf16)
          (.remote (Dev.tc n) (oM.slice (Rect.unit (s := S4096x512) off S64x512.size inb) (fun _ => rfl) : Memref sig .tc .vmem S64x512 .bf16) (.dma s) hsc) (.dma s') h h ht)) Q := by
  subst hn
  obtain rfl : s = semAt (arrOf q.1) q.2 := SemLoc.dma.inj hs
  obtain rfl : s' = semAt (arrOf q'.1) q'.2 := SemLoc.dma.inj hs'
  have hset : (oM.slice (Rect.unit (s := S4096x512) off S64x512.size inb) (fun _ => rfl) : Memref sig .tc .vmem S64x512 .bf16).view.set = rows b 64 :=
    (View.set_slice_whole _ _).trans (rect_rows hb rfl)
  unfold held runs Prog.lift
  iintro ⟨#HR, Hsrc, ⟨%f, Hdst⟩, ⟨%W, HO⟩, Ht, Ht', Hk⟩
  iapply (Rounds.wp_send_pointsTo 𝒱₀ ER (Rd x) (c : Thread nD τ) none (κ₁ := K (c, some q)) (κ₂ := K (n, some q'))
    (c' := (n : Thread nD τ)) (sp := .vmem) (sp' := .vmem) (s := S64x512) (sS := .dma (semAt (arrOf q.1) q.2)) (sem := .dma (semAt (arrOf q'.1) q'.2))
    (src := oM.slice (Rect.unit (s := S4096x512) off S64x512.size inb) (fun _ => rfl)) (dst := oM.slice (Rect.unit (s := S4096x512) off S64x512.size inb) (fun _ => rfl))
    (r₁ := 0) (r₂ := 0) (d₁ := false) (d₂ := false) (fs := gathered x c) (fd := f) (q := fullShare)
    (mem_duties_copy x c q) (mem_duties_copy x n q')
    () () N rfl (amount_copy x c q false) (amount_copy x n q' false) O rfl (W := W)
    (by rw [payload_copy, hq, hset]; exact BI.Entails.refl _)
    (by
      rw [payload_copy, hq']; unfold part
      rw [← hset]
      exact Entails.of_eq (pointsTo_congr fun i hi => (moved _ f (gathered x c) i hi).trans (hg i (hset ▸ hi)).symm))) $$ [Hsrc Hdst HO Ht Ht']
  · isplitr; · iapply (inv_at x K c (some q)); iexact HR
    isplitr; · iapply (inv_at x K n (some q')); iexact HR
    isplitl [Hsrc]; · unfold part; rw [← hset]; iexact Hsrc
    isplitl [Hdst]; · unfold part; rw [← hset]; iexact Hdst
    isplitl [HO]; · iexact HO
    isplitl [Ht]; · iexact Ht
    isplitr; · iapply (reached_at x K c (some q)); iexact HR
    isplitl [Ht']; · iexact Ht'
    iapply (reached_at x K n (some q')); iexact HR
  iintro ⟨Hc, HO⟩
  rw [wp_ret]; imodintro
  iapply Hk
  isplitl [HO]; · iexists W; iexact HO
  iexact Hc

/-- A step that takes each chunk's `R` to its `D`, and what is common from its state before the chunk to its state after,
    taken at every chunk of a list. -/
theorem runs_each (c : Dev nD) (P : sProp 𝕄) [BI.Persistent P] (R D : Fin 16 → sProp 𝕄) (S : List (Fin 16) → sProp 𝕄) (f : Fin 16 → P0 F)
    (h : ∀ (k : Fin 16) (ks : List (Fin 16)) (Q : PUnit → sProp 𝕄), iprop(P ∗ R k ∗ S (k :: ks) ∗ ((D k ∗ S ks) -∗ Q ⟨⟩)) ⊢ runs c (f k) Q)
    (ks : List (Fin 16)) : ∀ Q : PUnit → sProp 𝕄, iprop(P ∗ bigSepL ks R ∗ S ks ∗ ((bigSepL ks D ∗ S []) -∗ Q ⟨⟩)) ⊢ runs c (each f ks) Q := by
  induction ks with
  | nil =>
    intro Q
    show _ ⊢ runs c (Prog.ret ⟨⟩) Q
    unfold runs
    rw [bigSepL_nil, bigSepL_nil, wp_ret]
    iintro ⟨-, -, HS, Hk⟩
    imodintro
    iapply Hk
    isplitr; · iempintro
    iexact HS
  | cons k ks ih =>
    intro Q
    show _ ⊢ runs c (f k >>= fun _ => each f ks) Q
    unfold runs
    rw [wp_bind, bigSepL_cons', bigSepL_cons']
    iintro ⟨#HP, ⟨HR, HRs⟩, HS, Hk⟩
    iapply (h k ks _)
    isplitr; · iexact HP
    isplitl [HR]; · iexact HR
    isplitl [HS]; · iexact HS
    iintro ⟨HD, HS⟩
    iapply (ih Q)
    isplitr; · iexact HP
    isplitl [HRs]; · iexact HRs
    isplitl [HS]; · iexact HS
    iintro ⟨HDs, HS⟩
    iapply Hk
    isplitl [HD HDs]
    · isplitl [HD] <;> iassumption
    iexact HS

end Cert.KernelIdeal.Hand

end
-- ==== Proof.Body.lean ====
/-
# The kernel's body

The body of the kernel on one device, phase by phase: the handshake, the copies of the argument's rows into the result,
the chunks sent along `x`, passed on along `z`, received, and found to have left. It takes a device from what the
launch gives it to a result that holds what it is to hold.
-/
module

public import proofs.«01_k».proof.Proof.Moves

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S2048x512.Idx → Elt F .bf16) (K : Dev nD × Option CK → ℕ)

/-! ## The handshake -/

omit [FloatOps F] in
/-- Rows owned at some contents are room for a copy of each of their chunks. -/
theorem part_room (c : Dev nD) (b : ℕ) (f : S4096x512.Idx → Elt F .bf16) : (part c b 1024 f : sProp 𝕄) ⊢ room c b := by
  rw [part_all]
  exact bigSepL_mono fun k _ => by iintro H; iexists f; iexact H

/-- A device gives each peer room in its own result, and gets room in theirs. -/
theorem shake (c : Dev nD) (Q : PUnit → sProp 𝕄) :
    iprop(records x K ∗ levAts L lv ∗ room (F := F) c (passRow c) ∗ room (F := F) c (lastRow c)
        ∗ dutyTok ER (kcell (xp c) none) 0 false ∗ dutyTok ER (kcell (zp c) none) 0 true
        ∗ cred (tallyAt (kcell c none) () 2) ∗ atPos ER (kcell c none) 0 ∅ 0 ∗ held c (O₀ c)
        ∗ ((held c (O₂ c) ∗ atPos ER (kcell c none) 1 ∅ 0 ∗ room (F := F) (xp c) (passRow (xp c)) ∗ room (F := F) (zp c) (lastRow (zp c))) -∗ Q ⟨⟩))
      ⊢ runs c (handshake c) Q := by
  unfold handshake runs held
  simp only [semSignalWord, semWaitWord, Prog.lift, Prog.bind_op, Prog.bind_ret, dev1_eq c, dev2_eq c]
  iintro ⟨#HR, #Hlev, Hp, Hl, Htx, Htz, Hc, Hat, ⟨%W, HO⟩, Hk⟩
  iapply (Rounds.wp_signal 𝒱₀ ER (Rd x) (c : Thread nD τ) none (dst := (xp c : Thread nD τ)) (κ := K (xp c, none))
      (d := false) (by rw [duties_bar]; exact Finset.mem_univ _) ((amount_bar x (xp c) false).trans (by decide)) () (O₁ c) rfl)
    $$ [HO Htx Hp]
  · isplitr; · iapply (inv_at x K (xp c) none); iexact HR
    isplitl [HO]; · iexact HO
    isplitl [Htx]; · iexact Htx
    isplitl [Hp]
    · rw [payload_bar]; unfold barPay; rw [if_neg Bool.false_ne_true, xp_xp]; iexact Hp
    iapply (reached_at x K (xp c) none); iexact HR
  iintro HO
  iapply (Rounds.wp_signal 𝒱₀ ER (Rd x) (c : Thread nD τ) none (dst := (zp c : Thread nD τ)) (κ := K (zp c, none))
      (d := true) (by rw [duties_bar]; exact Finset.mem_univ _) ((amount_bar x (zp c) true).trans (by decide)) () (O₂ c) rfl)
    $$ [HO Htz Hl]
  · isplitr; · iapply (inv_at x K (zp c) none); iexact HR
    isplitl [HO]; · iexact HO
    isplitl [Htz]; · iexact Htz
    isplitl [Hl]
    · rw [payload_bar]; unfold barPay; rw [if_pos rfl, zp_zp]; iexact Hl
    iapply (reached_at x K (zp c) none); iexact HR
  iintro HO
  iapply (Rounds.wp_wait_rest_token 𝒱₀ ER (Rd x) (c : Thread nD τ) none (κ := K (c, none))
      (wpE_semWait_eq 𝒱₀ (c : Thread nD τ) none Set.univ) (Set.mem_univ _) () (O := O₂ c) (W := W) (R := 0) (m := 0) (T := ∅)
      (by rw [expect_bar]; decide)) $$ [Hc HO Hat]
  · isplitr; · iapply (inv_at x K c none); iexact HR
    isplitl [Hc]; · iexact Hc
    isplitl [HO]; · iexact HO
    isplitr
    · iapply (mayWait c (.reg barS) 1 (O₂ c) (le_refl _) fun g u h => (O₂_pos h).elim
        (fun ⟨k, e⟩ => ⟨_, _, e, Nat.lt_trans (by decide) (lvK_three k)⟩) (fun ⟨k, e⟩ => ⟨_, _, e, lvK_one k⟩))
      iexact Hlev
    iexact Hat
  iintro ⟨HO, Hat, -, Hpay⟩
  ihave Hp := (Entails.of_eq (rest_bar x c)) $$ Hpay
  icases Hp with ⟨Hx, Hz⟩
  rw [wp_ret]; imodintro
  iapply Hk
  isplitl [HO]; · iexists _; iexact HO
  isplitl [Hat]; · iexact Hat
  isplitl [Hx]; · iexact Hx
  iexact Hz

/-! ## Rows of the argument copied into the result -/

/-- Device `c`'s staged argument. -/
def argPts (c : Dev nD) : sProp 𝕄 := ((c : Thread nD τ).loc cc0_stg0_0) ↦{fullShare} (x c)

omit [FloatOps F] in
theorem setOn_rows {off size : Fin 2 → ℕ} {inb} {b n : ℕ} (h : off = ![b, 0]) (hs : size = ![n, 512]) :
    (oM.access (Rect.unit (s := S4096x512) off size inb)).set = rows b n := (View.set_slice_whole _ _).trans (rect_rows h hs)

/-- Loading rows of the argument, the rows of the result in their stead, and storing: the rows of the result then hold
    what they are to hold. -/
theorem copy_rows (c : Dev nD) {offS offD size : Fin 2 → ℕ} (inbS : ∀ a, offS a + size a ≤ S2048x512.size a) (inbD : ∀ a, offD a + size a ≤ S4096x512.size a)
    {a b n : ℕ} (hS : offS = ![a, 0]) (hD : offD = ![b, 0]) (hn : size = ![n, 512]) (hb : b = 2048 * (c.val / 16) + a) (hl : a + n ≤ 2048)
    (f : S4096x512.Idx → Elt F .bf16) (Q : PUnit → sProp 𝕄) (h₁ h₂ h₃ h₄)
    (pay : ((⟨2, size⟩ : Shape).Idx → Elt F .bf16) → ((⟨2, size⟩ : Shape).Idx → Elt F .bf16)) (hp : ∀ v, pay v = v) :
    iprop(argPts x c ∗ part c b n f ∗ ((argPts x c ∗ part c b n (gathered x c)) -∗ Q ⟨⟩))
      ⊢ runs c (Prog.op (.load xM (Rect.unit (s := S2048x512) offS size inbS).toLoadRect h₁) fun v =>
          Prog.op (.load oM (Rect.unit (s := S4096x512) offD size inbD).toLoadRect h₂) fun _ =>
          Prog.op (.store oM (Rect.unit (s := S4096x512) offD size inbD) (pay v) Finset.univ h₃ h₄) Prog.ret) Q := by
  have hset := setOn_rows (inb := inbD) hD hn
  unfold runs argPts part
  iintro ⟨Hx, Ho, Hk⟩
  iapply (wp_load 𝒱₀ (c : Thread nD τ) none Set.univ (m := xM) (Finset.subset_univ _)) $$ Hx
  iintro Hx
  iapply (wp_load_rect 𝒱₀ (c : Thread nD τ) none Set.univ (m := oM) (r := Rect.unit (s := S4096x512) offD size inbD) (S := rows b n) (hset ▸ Finset.Subset.refl _)) $$ Ho
  iintro Ho
  iapply (wp_store 𝒱₀ (c : Thread nD τ) none Set.univ (m := oM) (r := Rect.unit (s := S4096x512) offD size inbD) (Mk := Finset.univ)
    (by rw [View.setOn_univ, hset])) $$ Ho
  iintro Ho
  rw [hp, wp_ret]; imodintro
  iapply Hk
  isplitl [Hx]; · iexact Hx
  ihave Ho' := (Entails.of_eq (pointsTo_congr (f := _) (g := gathered x c) fun i hi => copied x c f hS hD hn hb hl i hi)) $$ Ho
  iexact Ho'

theorem copy_half (c : Dev nD) (r : Fin 2) (pay : Vec F S512x512 .bf16 → FVec F S512x512 .bf16) (hp : ∀ v, pay v = v)
    (f : S4096x512.Idx → Elt F .bf16) (Q : PUnit → sProp 𝕄) :
    iprop(argPts x c ∗ part c (sendRow c + 512 * r.val) 512 f ∗ ((argPts x c ∗ part c (sendRow c + 512 * r.val) 512 (gathered x c)) -∗ Q ⟨⟩))
      ⊢ runs c (copyHalf c r pay) Q :=
  copy_rows x c (k0_off1_inb c r) (k0_off2_inb c r) (off1_eq c r) (off2_eq c r) rfl
    (by unfold sendRow; omega) (by have := r.isLt; omega) f Q _ _ _ _ pay hp

theorem copy_rest (c : Dev nD) (f : S4096x512.Idx → Elt F .bf16) (Q : PUnit → sProp 𝕄) :
    iprop(argPts x c ∗ part c (keepRow c) 1024 f ∗ ((argPts x c ∗ part c (keepRow c) 1024 (gathered x c)) -∗ Q ⟨⟩))
      ⊢ runs c (copyRest c) Q :=
  copy_rows x c (k0_off4_inb c) (k0_off5_inb c) (off4_eq c) (off5_eq c) rfl
    rfl (by omega) f Q _ _ _ _ k0_pay3 (fun v => shapeCast_refl v _)

/-! ## The chunks -/

/-- The chunks of a list, each sent along `x`. -/
theorem sends_x (c : Dev nD) (rest ks : List (Fin 16)) (Q : PUnit → sProp 𝕄) :
    iprop(records x K ∗ (bigSepL ks fun k => chunk c (sendRow c) k (gathered x c)) ∗ (bigSepL ks fun k => iprop(∃ f, chunk (F := F) (xp c) (sendRow c) k f))
        ∗ (bigSepL ks fun k => dutyTok ER (kcell c (some (0, k))) 0 false) ∗ (bigSepL ks fun k => dutyTok ER (xTo c k) 0 false)
        ∗ held c (dues (zTo c) all16 + dues (xTo c) (ks ++ rest))
        ∗ (((bigSepL ks fun k => cred (tallyAt (kcell c (some (0, k))) () N)) ∗ held c (dues (zTo c) all16 + dues (xTo c) rest)) -∗ Q ⟨⟩))
      ⊢ runs c (each (sendX c) ks) Q := by
  have h := runs_each (F := F) c (records x K)
    (fun k => iprop(chunk c (sendRow c) k (gathered x c) ∗ (∃ f, chunk (F := F) (xp c) (sendRow c) k f)
      ∗ dutyTok ER (kcell c (some (0, k))) 0 false ∗ dutyTok ER (xTo c k) 0 false))
    (fun k => cred (tallyAt (kcell c (some (0, k))) () N))
    (fun ks => held c (dues (zTo c) all16 + dues (xTo c) (ks ++ rest))) (sendX c)
    (fun k ks Q => by
      iintro ⟨HR, ⟨Hs, Hd, Ht, Ht'⟩, HO, Hk⟩
      iapply (start_copy x K c (xp c) (xDev c) (xDev_eq c) (0, k) (1, k) (dues (zTo c) all16 + dues (xTo c) (ks ++ rest)) (xs k) (xr k) rfl rfl
        (k0_off3 c (wd k)) (k0_off3_inb c k) (sendRow c + 64 * k.val) (off3_eq c k) (sendM_words c k) rfl
        (by unfold copyPay rowOf; rw [← pass_xp c])
        (fun i hi => gathered_x x c i (by rw [mem_rows] at hi ⊢; have := k.isLt; omega)) Q _ _)
      isplitl [HR]; · iexact HR
      isplitl [Hs]; · iexact Hs
      isplitl [Hd]; · iexact Hd
      isplitl [HO]
      · rw [add_assoc]; iexact HO
      isplitl [Ht]; · iexact Ht
      isplitl [Ht']; · iexact Ht'
      iintro ⟨HO, Hc⟩
      iapply Hk
      isplitl [Hc]; · iexact Hc
      iexact HO) ks Q
  rw [bigSepL_sep, bigSepL_sep, bigSepL_sep] at h
  refine BIBase.Entails.trans ?_ h
  iintro ⟨HR, H1, H2, H3, H4, HO, Hk⟩
  isplitl [HR]; · iexact HR
  isplitl [H1 H2 H3 H4]
  · isplitl [H1]; · iexact H1
    isplitl [H2]; · iexact H2
    isplitl [H3] <;> iassumption
  isplitl [HO]; · iexact HO
  iexact Hk

/-- The chunks of a list, each awaited from across `x` and passed on along `z`. -/
theorem passes_z (c : Dev nD) (ks : List (Fin 16)) (Q : PUnit → sProp 𝕄) :
    iprop((records x K ∗ levAts L lv) ∗ (bigSepL ks fun k => cred (tallyAt (kcell c (some (1, k))) () N)) ∗ (bigSepL ks fun k => atPos ER (kcell c (some (1, k))) 0 ∅ 0)
        ∗ (bigSepL ks fun k => iprop(∃ f, chunk (F := F) (zp c) (passRow c) k f))
        ∗ (bigSepL ks fun k => dutyTok ER (kcell c (some (2, k))) 0 false) ∗ (bigSepL ks fun k => dutyTok ER (zTo c k) 0 false)
        ∗ held c (dues (zTo c) ks)
        ∗ ((((bigSepL ks fun k => atPos ER (kcell c (some (1, k))) 1 ∅ 0) ∗ (bigSepL ks fun k => cred (tallyAt (kcell c (some (2, k))) () N))) ∗ held c 0) -∗ Q ⟨⟩))
      ⊢ runs c (each (fun k => waitX c k >>= fun _ => sendZ c k) ks) Q := by
  have h := runs_each (F := F) c iprop(records x K ∗ levAts L lv)
    (fun k => iprop(cred (tallyAt (kcell c (some (1, k))) () N) ∗ atPos ER (kcell c (some (1, k))) 0 ∅ 0 ∗ (∃ f, chunk (F := F) (zp c) (passRow c) k f)
      ∗ dutyTok ER (kcell c (some (2, k))) 0 false ∗ dutyTok ER (zTo c k) 0 false))
    (fun k => iprop(atPos ER (kcell c (some (1, k))) 1 ∅ 0 ∗ cred (tallyAt (kcell c (some (2, k))) () N)))
    (fun ks => held c (dues (zTo c) ks)) (fun k => waitX c k >>= fun _ => sendZ c k)
    (fun k ks Q => by
      unfold runs
      rw [wp_bind]
      iintro ⟨⟨#HR, #Hlev⟩, ⟨Hc, Hat, Hd, Ht, Ht'⟩, HO, Hk⟩
      iapply (wait_copy x K c (1, k) (dues (zTo c) (k :: ks)) (xr k) rfl (sendM c k) (sendM c k) (sendM_words c k) (sendM_words c k) _)
      isplitr; · iexact HR
      isplitl [Hc]; · iexact Hc
      isplitl [HO]; · iexact HO
      isplitr
      · iapply (mayWait c (osem (1, k)) 2 (dues (zTo c) (k :: ks)) (by rw [kind_osem]; exact le_refl 2)
          fun g u h => (dues_pos h).elim fun k e => ⟨_, _, e, lvK_three k⟩)
        iexact Hlev
      isplitl [Hat]; · iexact Hat
      iintro ⟨HO, Hat, Hs⟩
      iapply (start_copy x K c (zp c) (zDev c) (zDev_eq c) (2, k) (3, k) (dues (zTo c) ks) (zs k) (zr k) rfl rfl
        (k0_off6 c (wd k)) (k0_off6_inb c k) (passRow c + 64 * k.val) (off6_eq c k) (passM_words c k) rfl
        (by unfold copyPay rowOf; rw [← last_zp c])
        (fun i hi => gathered_z x c i (by rw [mem_rows] at hi ⊢; have := k.isLt; omega)) Q _ _)
      isplitr; · iexact HR
      isplitl [Hs]; · unfold copyPay rowOf; iexact Hs
      isplitl [Hd]; · iexact Hd
      isplitl [HO]; · iexact HO
      isplitl [Ht]; · iexact Ht
      isplitl [Ht']; · iexact Ht'
      iintro ⟨HO, Hc⟩
      iapply Hk
      isplitl [Hat Hc]
      · isplitl [Hat] <;> iassumption
      iexact HO) ks Q
  rw [bigSepL_sep, bigSepL_sep, bigSepL_sep, bigSepL_sep, bigSepL_sep] at h
  refine BIBase.Entails.trans ?_ h
  iintro ⟨HR, H1, H2, H3, H4, H5, HO, Hk⟩
  isplitl [HR]; · iexact HR
  isplitl [H1 H2 H3 H4 H5]
  · isplitl [H1]; · iexact H1
    isplitl [H2]; · iexact H2
    isplitl [H3]; · iexact H3
    isplitl [H4] <;> iassumption
  isplitl [HO]; · iexact HO
  iexact Hk

/-- Waiting for a copy's cell when nothing is owed. -/
theorem wait_free (c : Dev nD) (q : CK) (s : DmaSem sig) (hs : SemLoc.dma s = osem q)
    (src dst : Memref sig .tc .vmem S64x512 .bf16) (h₁ : src.view.WordExact) (h₂ : dst.view.WordExact) (Q : PUnit → sProp 𝕄) :
    iprop(records x K ∗ (cred (tallyAt (kcell c (some q)) () N) ∗ atPos ER (kcell c (some q)) 0 ∅ 0) ∗ held c 0
        ∗ (((atPos ER (kcell c (some q)) 1 ∅ 0 ∗ copyPay x c q) ∗ held c 0) -∗ Q ⟨⟩))
      ⊢ runs c (Prog.lift (.waitDma2 s src dst h₁ h₂)) Q := by
  iintro ⟨HR, ⟨Hc, Hat⟩, HO, Hk⟩
  iapply (wait_copy x K c q 0 s hs src dst h₁ h₂ Q)
  isplitl [HR]; · iexact HR
  isplitl [Hc]; · iexact Hc
  isplitl [HO]; · iexact HO
  isplitr; · rw [MayWait_zero]; iempintro
  isplitl [Hat]; · iexact Hat
  iintro ⟨HO, Hat, Hp⟩
  iapply Hk
  isplitl [Hat Hp]
  · isplitl [Hat] <;> iassumption
  iexact HO

/-- The chunks of a list, each awaited from across `z`. -/
theorem waits_z (c : Dev nD) (ks : List (Fin 16)) (Q : PUnit → sProp 𝕄) :
    iprop(records x K ∗ ((bigSepL ks fun k => cred (tallyAt (kcell c (some (3, k))) () N)) ∗ (bigSepL ks fun k => atPos ER (kcell c (some (3, k))) 0 ∅ 0)) ∗ held c 0
        ∗ ((((bigSepL ks fun k => atPos ER (kcell c (some (3, k))) 1 ∅ 0) ∗ (bigSepL ks fun k => copyPay x c (3, k))) ∗ held c 0) -∗ Q ⟨⟩))
      ⊢ runs c (each (waitZ c) ks) Q := by
  rw [← bigSepL_sep, ← bigSepL_sep]
  exact runs_each (F := F) c (records x K) _ _ (fun _ => held c 0) (waitZ c)
    (fun k _ Q => wait_free x K c (3, k) (zr k) rfl (lastM c k) (lastM c k) (lastM_words c k) (lastM_words c k) Q) ks Q

/-- The chunks of a list, each found to have left along `x` and along `z`. -/
theorem waits_left (c : Dev nD) (ks : List (Fin 16)) (Q : PUnit → sProp 𝕄) :
    iprop(records x K ∗ (((bigSepL ks fun k => cred (tallyAt (kcell c (some (0, k))) () N)) ∗ (bigSepL ks fun k => atPos ER (kcell c (some (0, k))) 0 ∅ 0))
          ∗ (bigSepL ks fun k => cred (tallyAt (kcell c (some (2, k))) () N)) ∗ (bigSepL ks fun k => atPos ER (kcell c (some (2, k))) 0 ∅ 0)) ∗ held c 0
        ∗ (((((bigSepL ks fun k => atPos ER (kcell c (some (0, k))) 1 ∅ 0) ∗ (bigSepL ks fun k => copyPay x c (0, k)))
            ∗ (bigSepL ks fun k => atPos ER (kcell c (some (2, k))) 1 ∅ 0) ∗ (bigSepL ks fun k => copyPay x c (2, k))) ∗ held c 0) -∗ Q ⟨⟩))
      ⊢ runs c (each (fun k => leftX c k >>= fun _ => leftZ c k) ks) Q := by
  simp only [← bigSepL_sep]
  exact runs_each (F := F) c (records x K) _ _ (fun _ => held c 0) (fun k => leftX c k >>= fun _ => leftZ c k)
    (fun k _ Q => by
      unfold runs
      rw [wp_bind]
      iintro ⟨#HR, ⟨H0, H2⟩, HO, Hk⟩
      iapply (wait_free x K c (0, k) (xs k) rfl (sendM c k) (sendM c k) (sendM_words c k) (sendM_words c k) _)
      isplitr; · iexact HR
      isplitl [H0]; · iexact H0
      isplitl [HO]; · iexact HO
      iintro ⟨D0, HO⟩
      iapply (wait_free x K c (2, k) (zs k) rfl (passM c k) (passM c k) (passM_words c k) (passM_words c k) Q)
      isplitr; · iexact HR
      isplitl [H2]; · iexact H2
      isplitl [HO]; · iexact HO
      iintro ⟨D2, HO⟩
      iapply Hk
      isplitl [D0 D2]
      · isplitl [D0] <;> iassumption
      iexact HO) ks Q

end Cert.KernelIdeal.Hand

end
-- ==== Proof.Whole.lean ====
/-
# The kernel's body, from first to last

The phases of the body put together: what a device has at launch, and what it has at the end.
-/
module

public import proofs.«01_k».proof.Proof.Body

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → S2048x512.Idx → Elt F .bf16) (K : Dev nD × Option CK → ℕ)

/-- Something for each chunk of each of the four arrays. -/
abbrev four (Φ : CK → sProp 𝕄) : sProp 𝕄 :=
  iprop((bigSepL all16 fun k => Φ (0, k)) ∗ (bigSepL all16 fun k => Φ (1, k)) ∗ (bigSepL all16 fun k => Φ (2, k)) ∗ (bigSepL all16 fun k => Φ (3, k)))

abbrev listCK : List CK := all16.map (fun k => (0, k)) ++ (all16.map (fun k => (1, k)) ++ (all16.map (fun k => (2, k)) ++ all16.map (fun k => (3, k))))

omit [FloatOps F] in
theorem four_eq (Φ : CK → sProp 𝕄) : bigSep Finset.univ Φ = four Φ := by
  rw [bigSep_univ_eq_bigSepL listCK (by decide +kernel) (by decide +kernel), bigSepL_append, bigSepL_append, bigSepL_append, bigSepL_map, bigSepL_map, bigSepL_map, bigSepL_map]

omit [FloatOps F] in
/-- Something for each member of an option type: for `none`, and for the others. -/
theorem cells_eq {I : Type} [Fintype I] [DecidableEq I] (Φ : Option I → sProp 𝕄) :
    bigSep Finset.univ Φ = iprop(Φ none ∗ bigSep Finset.univ fun q : I => Φ (some q)) := by
  rw [bigSep_univ_at _ (none : Option I), show (Finset.univ : Finset (Option I)).erase none = Finset.univ.map ⟨some, Option.some_injective _⟩ from by
    ext o; cases o <;> simp, bigSep_map]
  rfl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens of the units and copies device `c` sends: to its peers' barriers, and of each chunk along `x` and along
    `z`, at both ends. -/
def payToks (c : Dev nD) : sProp 𝕄 :=
  iprop(dutyTok ER (kcell (xp c) none) 0 false ∗ dutyTok ER (kcell (zp c) none) 0 true
    ∗ (bigSepL all16 fun k => dutyTok ER (kcell c (some (0, k))) 0 false) ∗ (bigSepL all16 fun k => dutyTok ER (xTo c k) 0 false)
    ∗ (bigSepL all16 fun k => dutyTok ER (kcell c (some (2, k))) 0 false) ∗ (bigSepL all16 fun k => dutyTok ER (zTo c k) 0 false))

/-- The credit device `c` waits with: its barrier's, and of each chunk it receives. -/
def credits (c : Dev nD) : sProp 𝕄 :=
  iprop(cred (tallyAt (kcell c none) () 2) ∗ (bigSepL all16 fun k => cred (tallyAt (kcell c (some (1, k))) () N))
    ∗ (bigSepL all16 fun k => cred (tallyAt (kcell c (some (3, k))) () N)))

omit [FloatOps F] in
/-- A device's cells, each past its one round, give their counters back at zero. -/
theorem close_all (c : Dev nD) :
    iprop(records x K ∗ bigSep Finset.univ fun o : Option CK => atPos ER (kcell c o) 1 ∅ 0)
      ⊢ (|={Set.univ}=> bigSep Finset.univ fun o : Option CK => semVal (kcell c o) 0 : sProp 𝕄) :=
  (bigSep_with_persistent (R := records x K) (Ψ := fun o : Option CK => iprop(cellInv ER (Rd x) (K (c, o)) (kcell c o) ∗ atPos ER (kcell c o) 1 ∅ 0))
    fun o _ => by
      iintro ⟨HR, Hat⟩
      isplitl [HR]; · iapply (inv_at x K c o); iexact HR
      iexact Hat).trans
    (Rounds.cells_close ER (Rd x) Finset.univ (fun o => kcell c o) (fun o => K (c, o)) (fun _ _ => Set.mem_univ _) (fun _ _ h => h) (fun _ => 1)
      fun o _ => duties_later x (kcell c o))

set_option maxHeartbeats 1000000 in
/-- The body: from what device `c` has at launch to its result, holding what it is to hold, its semaphores at zero. -/
theorem sound_told (c : Dev nD) (Q : PUnit → sProp 𝕄) :
    iprop(records x K ∗ levAts L lv ∗ (bigSep Finset.univ fun o : Option CK => atPos ER (kcell c o) 0 ∅ 0) ∗ payToks (F := F) c ∗ credits (F := F) c
        ∗ held c (O₀ c) ∗ argPts x c ∗ (∃ f : S4096x512.Idx → Elt F .bf16, ((c : Thread nD τ).loc cc0_stg1_0) ↦{fullShare} f)
        ∗ ((held c 0 ∗ argPts x c ∗ (((c : Thread nD τ).loc cc0_stg1_0) ↦{fullShare} (gathered x c)) ∗ bigSep Finset.univ fun o : Option CK => semVal (kcell c o) 0) -∗ Q ⟨⟩))
      ⊢ runs c (told c) Q := by
  have hsplit (f : S4096x512.Idx → Elt F .bf16) : (part c (sendRow c) 1024 f : sProp 𝕄) = iprop(part c (sendRow c + 512 * (0 : Fin 2).val) 512 f ∗ part c (sendRow c + 512 * (1 : Fin 2).val) 512 f) :=
    part_append c (sendRow c) 512 512 f
  have hcut (Φ : Fin 16 → sProp 𝕄) : bigSepL all16 Φ = iprop(bigSepL lo8 Φ ∗ bigSepL hi8 Φ) := bigSepL_append lo8 hi8 Φ
  have hlo : (part c (sendRow c + 512 * (0 : Fin 2).val) 512 (gathered x c) : sProp 𝕄) = bigSepL lo8 fun k => chunk c (sendRow c) k (gathered x c) := part_lo c (sendRow c) _
  have hhi : (part c (sendRow c + 512 * (1 : Fin 2).val) 512 (gathered x c) : sProp 𝕄) = bigSepL hi8 fun k => chunk c (sendRow c) k (gathered x c) := part_hi c (sendRow c) _
  rw [← bind_pure (told c)]
  unfold told runs
  simp only [wp_bind]
  rw [cells_eq, four_eq]
  unfold payToks credits four
  iintro ⟨#HR, #Hlev, ⟨HaB, Ha0, Ha1, Ha2, Ha3⟩, ⟨HtBx, HtBz, Ht0, Ht1, Ht2, Ht3⟩, ⟨HcB, Hc1, Hc3⟩, HO, Hx, ⟨%f, Hout⟩, Hk⟩
  ihave Hq := (Entails.of_eq (whole_quarters c f)) $$ Hout
  icases Hq with ⟨Hs, Hkeep, Hp, Hl⟩
  ihave Hs' := (Entails.of_eq (hsplit f)) $$ Hs
  icases Hs' with ⟨Hs0, Hs1⟩
  ihave Hp' := (part_room (F := F) c (passRow c) f) $$ Hp
  ihave Hl' := (part_room (F := F) c (lastRow c) f) $$ Hl
  -- the handshake
  iapply (shake x K c _)
  isplitr; · iexact HR
  isplitr; · iexact Hlev
  isplitl [Hp']; · iexact Hp'
  isplitl [Hl']; · iexact Hl'
  isplitl [HtBx]; · iexact HtBx
  isplitl [HtBz]; · iexact HtBz
  isplitl [HcB]; · iexact HcB
  isplitl [HaB]; · iexact HaB
  isplitl [HO]; · iexact HO
  rw [pass_xp, last_zp]
  iintro ⟨HO, HaB, Hrx, Hrz⟩
  ihave Hrx' := (Entails.of_eq (hcut _)) $$ Hrx
  icases Hrx' with ⟨Hrx0, Hrx1⟩
  ihave Ht0' := (Entails.of_eq (hcut _)) $$ Ht0
  icases Ht0' with ⟨Ht00, Ht01⟩
  ihave Ht1' := (Entails.of_eq (hcut _)) $$ Ht1
  icases Ht1' with ⟨Ht10, Ht11⟩
  -- the first half of the rows to be sent, copied and sent
  iapply (copy_half x c 0 k0_pay1 (fun v => shapeCast_refl v _) f _)
  isplitl [Hx]; · iexact Hx
  isplitl [Hs0]; · iexact Hs0
  iintro ⟨Hx, Hs0⟩
  ihave Hs0' := (Entails.of_eq hlo) $$ Hs0
  iapply (sends_x x K c hi8 lo8 _)
  isplitr; · iexact HR
  isplitl [Hs0']; · iexact Hs0'
  isplitl [Hrx0]; · iexact Hrx0
  isplitl [Ht00]; · iexact Ht00
  isplitl [Ht10]; · iexact Ht10
  isplitl [HO]; · iexact HO
  iintro ⟨Hc00, HO⟩
  -- the second half
  iapply (copy_half x c 1 k0_pay2 (fun v => shapeCast_refl v _) f _)
  isplitl [Hx]; · iexact Hx
  isplitl [Hs1]; · iexact Hs1
  iintro ⟨Hx, Hs1⟩
  ihave Hs1' := (Entails.of_eq hhi) $$ Hs1
  iapply (sends_x x K c [] hi8 _)
  isplitr; · iexact HR
  isplitl [Hs1']; · iexact Hs1'
  isplitl [Hrx1]; · iexact Hrx1
  isplitl [Ht01]; · iexact Ht01
  isplitl [Ht11]; · iexact Ht11
  isplitl [HO]; · iexact HO
  iintro ⟨Hc01, HO⟩
  -- the other rows of the argument
  iapply (copy_rest x c f _)
  isplitl [Hx]; · iexact Hx
  isplitl [Hkeep]; · iexact Hkeep
  iintro ⟨Hx, Hkeep⟩
  -- the chunks received along `x`, passed on along `z`
  iapply (passes_z x K c all16 _)
  isplitr
  · isplitr
    · iexact HR
    · iexact Hlev
  isplitl [Hc1]; · iexact Hc1
  isplitl [Ha1]; · iexact Ha1
  isplitl [Hrz]; · iexact Hrz
  isplitl [Ht2]; · iexact Ht2
  isplitl [Ht3]; · iexact Ht3
  isplitl [HO]; · unfold dues; rw [add_zero]; iexact HO
  iintro ⟨⟨Ha1, Hc2⟩, HO⟩
  -- the chunks received along `z`
  iapply (waits_z x K c all16 _)
  isplitr; · iexact HR
  isplitl [Hc3 Ha3]
  · isplitl [Hc3] <;> iassumption
  isplitl [HO]; · iexact HO
  iintro ⟨⟨Ha3, Hlast⟩, HO⟩
  -- the chunks found to have left
  iapply (waits_left x K c all16 _)
  isplitr; · iexact HR
  isplitl [Hc00 Hc01 Ha0 Hc2 Ha2]
  · isplitl [Hc00 Hc01 Ha0]
    · isplitl [Hc00 Hc01]
      · rw [hcut]
        isplitl [Hc00] <;> iassumption
      iexact Ha0
    isplitl [Hc2] <;> iassumption
  isplitl [HO]; · iexact HO
  iintro ⟨⟨⟨Ha0, Hsend⟩, Ha2, Hpass⟩, HO⟩
  -- the cells closed, the quarters put together
  rw [Prog.pure_eq_ret, wp_ret]
  imod (close_all x K c) $$ [HaB Ha0 Ha1 Ha2 Ha3] with Hz
  · isplitr; · iexact HR
    rw [cells_eq, four_eq]
    unfold four
    isplitl [HaB]; · iexact HaB
    isplitl [Ha0]; · iexact Ha0
    isplitl [Ha1]; · iexact Ha1
    isplitl [Ha2] <;> iassumption
  imodintro
  iapply Hk
  isplitl [HO]; · iexact HO
  isplitl [Hx]; · iexact Hx
  isplitl [Hsend Hkeep Hpass Hlast]
  · rw [whole_quarters, part_all c (sendRow c), part_all c (passRow c), part_all c (lastRow c)]
    unfold copyPay rowOf
    isplitl [Hsend]; · iexact Hsend
    isplitl [Hkeep]; · iexact Hkeep
    isplitl [Hpass] <;> iassumption
  iexact Hz

end Cert.KernelIdeal.Hand

end
-- ==== Proof.Run.lean ====
/-
# The kernel's run

The launch on all devices: the cells given their invariants, the tokens dealt to the devices that spend them, the credit
each device waits with. The last theorem is the run of the whole program: it ends, with every result holding what it is
to hold, the arguments unchanged and every semaphore at zero.
-/
module

public import proofs.«01_k».proof.Proof.Whole
public import proofs.«01_k».proof.Proof.Gen.KernelIdeal.Launch
public import Idealize.ShloMosaic.Lib.Pipeline.Kit
public import Idealize.ShloMosaic.Lib.Pipeline.CollectiveSegs
public import Idealize.ShloMosaic.Lib.Pipeline.ValueKit.Geometry

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- Device `c`'s argument, as staged. -/
def staged (c : Dev nD) : S2048x512.Idx → Elt F .bf16 :=
  (win0_0.blk (0 : Fin 1)).view.read (Elt F) ((s₀ m ρ).mem ((c : Thread nD τ).loc main_arg0))

/-! ## The pipeline's data -/

/-- What the cells' set-up leaves with device `c`. -/
def ghost (K : Dev nD × Option CK → ℕ) (c : Dev nD) : sProp 𝕄 :=
  iprop(records (staged m ρ) K ∗ (bigSep Finset.univ fun o : Option CK => atPos ER (kcell c o) 0 ∅ 0) ∗ payToks (F := F) c)

/-- What device `c`'s body starts from, and what it leaves besides the buffers. -/
def start (c : Dev nD) : sProp 𝕄 := iprop((∃ K, ghost m ρ K c) ∗ credits (F := F) c ∗ levAts L lv)
def finish (c : Dev nD) : sProp 𝕄 := bigSep Finset.univ fun o : Option CK => semVal (kcell c o) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => staged m ρ c
    | ⟨1, _⟩ => gathered (staged m ρ) c
  Φ t := match t with
    | ⟨0, _⟩ => start m ρ c
    | ⟨_ + 1, _⟩ => finish c
  q _ := fullShare
  owed t := match t with
    | ⟨0, _⟩ => O₀ c
    | ⟨_ + 1, _⟩ => 0

theorem fetch_arg (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(start m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(finish (F := F) c ∗ (dats m ρ 0 c).owesAt () t0_0.succ ∗ stg c cc0_stg0_0 (staged m ρ c) ∗ stg c cc0_stg1_0 (gathered (staged m ρ) c))

/-- The printed body, from what the launch's pipeline gives it to what the pipeline asks of it. -/
theorem sound_body (c : Dev nD) : bodyPre m ρ c ⊢ runs c (printed (F := F)) (fun _ => bodyPost m ρ c) := by
  rw [printed_eq]
  unfold runs
  simp only [Prog.lift, Prog.bind_op, Prog.bind_ret, wp_deviceId]
  unfold bodyPre start ghost Dat.owesAt Pipeline.owesWithin
  iintro ⟨⟨⟨%K, HR, Hat, Htok⟩, Hcr, Hlev⟩, ⟨%W, %hW, HO⟩, ⟨%d0, %g0, %hg0, Hx⟩, ⟨%d1, %g1, %hg1, Hout⟩⟩
  have hx : g0 = staged m ρ c := by rw [hg0]; unfold Dat.before; rw [if_pos (fetch_arg t0_0)]; rfl
  subst hx
  rw [show (dats m ρ 0 c).owed t0_0.castSucc = O₀ c from rfl]
  iapply (sound_told (staged m ρ) K c fun _ => bodyPost m ρ c)
  isplitl [HR]; · iexact HR
  isplitl [Hlev]; · iexact Hlev
  isplitl [Hat]; · iexact Hat
  isplitl [Htok]; · iexact Htok
  isplitl [Hcr]; · iexact Hcr
  isplitl [HO]; · unfold held; iexists W; iexact HO
  isplitl [Hx]; · unfold argPts; iexact Hx
  isplitl [Hout]; · iexists g1; iexact Hout
  unfold bodyPost finish held argPts Dat.owesAt Pipeline.owesWithin
  rw [show (dats m ρ 0 c).owed t0_0.succ = 0 from rfl]
  iintro ⟨⟨%W', HO⟩, Hx, Hout, Hz⟩
  isplitl [Hz]; · iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ runs c (printed (F := F)) (fun _ => bodyPost m ρ c)
  exact sound_body m ρ c

/-! ## The cells set up -/

theorem ownSemFacts : Pipeline.OwnSemFacts cfg0.spec osem := by decide +kernel

theorem share_eq (c : Dev nD) (w : Fin cfg0.W) : (dats m ρ 0 c).share w = fullShare := by unfold Dat.share; split <;> rfl

def allCells : Finset (GSem nD τ sig) := Finset.univ.map ⟨fun p : Dev nD × Option CK => kcell p.1 p.2, kcell_injective⟩

/-- A device's own tokens: its barrier's second unit (`none`), and one for each of its cells. -/
abbrev tokOf (p : Dev nD × Option (Option CK)) : GSem nD τ sig × ℕ × Bool := match p.2 with
  | none => (kcell p.1 none, 0, true)
  | some o => (kcell p.1 o, 0, false)
theorem tokOf_injective : Function.Injective tokOf := by
  rintro ⟨c, o⟩ ⟨c', o'⟩ h
  cases o with
  | none =>
    cases o' with
    | none => exact Prod.ext (kcell_eq_iff.mp (congrArg Prod.fst h)).1 rfl
    | some o' => exact Bool.noConfusion (congrArg (fun p => p.2.2) h : true = false)
  | some o =>
    cases o' with
    | none => exact Bool.noConfusion (congrArg (fun p => p.2.2) h : false = true)
    | some o' =>
      obtain ⟨h1, h2⟩ := kcell_eq_iff.mp (congrArg Prod.fst h)
      exact Prod.ext h1 (congrArg some h2)
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The tokens of device `c`'s own cells. -/
def toks (c : Dev nD) : sProp 𝕄 :=
  iprop(dutyTok ER (kcell c none) 0 true ∗ dutyTok ER (kcell c none) 0 false ∗ four (F := F) fun q => dutyTok ER (kcell c (some q)) 0 false)

def G (c : Dev nD) : sProp 𝕄 :=
  iprop((bigSep Finset.univ fun o : Option CK => roundState ER (Rd (staged m ρ)) (kcell c o) 0)
    ∗ (bigSep Finset.univ fun o : Option CK => iprop(atPos ER (kcell c o) 0 ∅ 0 ∗ reached ER (kcell c o) 0)) ∗ toks (F := F) c)

def G' (c : Dev nD) : sProp 𝕄 := iprop(∃ K, ghost m ρ K c)

omit [FloatOps F] in
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun o : Option CK => Φ (kcell c o) := by
    unfold allCells; rw [bigSep_map, bigSep_univ_prod]; rfl
  have hT : bigSep allToks (fun t => (dutyTok ER t.1 t.2.1 t.2.2 : sProp 𝕄)) = bigSep Finset.univ fun c : Dev nD => toks (F := F) c := by
    unfold allToks; rw [bigSep_map, bigSep_univ_prod]
    exact bigSep_congr fun c _ => by unfold toks; rw [cells_eq, cells_eq, four_eq]; rfl
  iintro HX
  imod (Rounds.fund ER (Rd (staged m ρ)) allCells allToks) $$ HX with ⟨Hst, Hr, Hat, Htok⟩
  imodintro
  ihave Hst' := (Entails.of_eq (hX fun g => roundState ER (Rd (staged m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier is the launch's one semaphore that is not the kernel's own. -/
theorem unscopedSems0_eq (c : Dev nD) : (unscopedSems0 c : sProp 𝕄) = semVal (kcell c none) 0 := by
  unfold unscopedSems0; rw [bigSep_eq_bigSepL_of_eq [SemLoc.reg barS] (by decide) (by decide)]; rfl

omit [FloatOps F] in
theorem sems_eq (c : Dev nD) :
    (bigSep Finset.univ fun o : Option CK => semVal (kcell c o) 0 : sProp 𝕄)
      = iprop(unscopedSems0 c ∗ Pipeline.ownSems0 (Ix := Unit) (Name := ℕ) (U := UU) (Lvl := ℕ) (Val := Elt F) (τ := τ) osem c) := by
  rw [cells_eq, unscopedSems0_eq]; rfl

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o : Option CK => iprop(∃ κ : ℕ, cellInv ER (Rd (staged m ρ)) κ (kcell c o)))
          ∗ (bigSep Finset.univ fun o : Option CK => iprop(atPos ER (kcell c o) 0 ∅ 0 ∗ reached ER (kcell c o) 0)) ∗ toks (F := F) c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun o : Option CK => semVal (kcell c o) 0) ∗ bigSep Finset.univ fun o : Option CK => roundState ER (Rd (staged m ρ)) (kcell c o) 0)
      ⊢ (|={Set.univ}=> bigSep Finset.univ fun o : Option CK => iprop(∃ κ : ℕ, cellInv ER (Rd (staged m ρ)) κ (kcell c o)) : sProp 𝕄) from by
        rw [← bigSep_sep']
        exact (bigSep_mono fun o _ => (Rounds.body_intro ER (Rd (staged m ρ)) (kcell c o)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt: those of the barriers and of the cells received on go to the peers that raise them. -/
theorem toks_dealt : (bigSep Finset.univ fun c : Dev nD => (toks (F := F) c : sProp 𝕄)) ⊢ bigSep Finset.univ fun c : Dev nD => payToks (F := F) c := by
  unfold toks payToks four
  simp only [bigSep_sep']
  rw [bigSep_univ_equiv zpE (fun c : Dev nD => (dutyTok ER (kcell c none) 0 true : sProp 𝕄)),
    bigSep_univ_equiv xpE (fun c : Dev nD => (dutyTok ER (kcell c none) 0 false : sProp 𝕄)),
    bigSep_univ_equiv xpE (fun c : Dev nD => (bigSepL all16 fun k => dutyTok ER (kcell c (some (1, k))) 0 false : sProp 𝕄)),
    bigSep_univ_equiv zpE (fun c : Dev nD => (bigSepL all16 fun k => dutyTok ER (kcell c (some (3, k))) 0 false : sProp 𝕄))]
  iintro ⟨H1, H2, H3, H4, H5, H6⟩
  isplitl [H2]; · iexact H2
  isplitl [H1]; · iexact H1
  isplitl [H3]; · iexact H3
  isplitl [H4]; · iexact H4
  isplitl [H5]; · iexact H5
  iexact H6

omit [FloatOps F] in
theorem regroup :
    (bigSep Finset.univ fun c : Dev nD => iprop((bigSep Finset.univ fun o : Option CK => iprop(∃ κ : ℕ, cellInv ER (Rd (staged m ρ)) κ (kcell c o)))
          ∗ (bigSep Finset.univ fun o : Option CK => iprop(atPos ER (kcell c o) 0 ∅ 0 ∗ reached ER (kcell c o) 0)) ∗ toks (F := F) c) : sProp 𝕄)
      ⊢ bigSep Finset.univ (G' m ρ) := by
  rw [bigSep_sep', bigSep_sep', ← bigSep_univ_prod (fun p : Dev nD × Option CK => iprop(∃ κ : ℕ, cellInv ER (Rd (staged m ρ)) κ (kcell p.1 p.2))),
    bigSep_congr (s := Finset.univ) (fun (c : Dev nD) _ => bigSep_sep' Finset.univ (fun o : Option CK => (atPos ER (kcell c o) 0 ∅ 0 : sProp 𝕄)) (fun o => reached ER (kcell c o) 0)),
    bigSep_sep', ← bigSep_univ_prod (fun p : Dev nD × Option CK => (reached ER (kcell p.1 p.2) 0 : sProp 𝕄))]
  iintro ⟨HI, ⟨Hat, #HR⟩, Htok⟩
  ihave HK := (BI.bigSep_exists_pi Finset.univ (fun (p : Dev nD × Option CK) (κ : ℕ) => (cellInv ER (Rd (staged m ρ)) κ (kcell p.1 p.2) : sProp 𝕄))) $$ HI
  icases HK with ⟨%K, #HI⟩
  ihave Htk := (toks_dealt (F := F)) $$ Htok
  iapply (bigSep_with_persistent (R := records (staged m ρ) K)
    (Φ := fun c : Dev nD => iprop((bigSep Finset.univ fun o : Option CK => atPos ER (kcell c o) 0 ∅ 0) ∗ payToks (F := F) c)) fun c _ => by
      unfold G' ghost
      iintro ⟨HR, Hat, Ht⟩
      iexists K
      isplitl [HR]; · iexact HR
      isplitl [Hat] <;> iassumption)
  isplitr
  · unfold records; isplitl; · iexact HI
    iexact HR
  · rw [bigSep_sep']
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- What a device's list of copies to array `a` of device `e` owes a cell: one copy's credit if it is a cell of that
    array on that device, nothing if it is not. -/
theorem dues_other (e c : Dev nD) (a : Fin 4) (o : Option CK) (ks : List (Fin 16)) (h : ∀ k ∈ ks, kcell c o ≠ kcell e (some (a, k))) :
    dues (fun k => kcell e (some (a, k))) ks (kcell c o) () = 0 := by
  induction ks with
  | nil => rfl
  | cons k ks ih =>
    unfold dues
    rw [Pi.add_apply, Finsupp.add_apply, ih fun k' h' => h k' (List.mem_cons_of_mem _ h'), tallyAt_apply, if_neg (fun h' => h k List.mem_cons_self h'.1)]
theorem dues_at (c : Dev nD) (a : Fin 4) (k : Fin 16) (ks : List (Fin 16)) (hk : k ∈ ks) (hn : ks.Nodup) :
    dues (fun k => kcell c (some (a, k))) ks (kcell c (some (a, k))) () = N := by
  induction ks with
  | nil => exact absurd hk List.not_mem_nil
  | cons k' ks ih =>
    unfold dues
    rw [List.nodup_cons] at hn
    rw [Pi.add_apply, Finsupp.add_apply, tallyAt_apply]
    by_cases h : k = k'
    · subst h
      rw [if_pos ⟨rfl, rfl⟩, dues_other c c a _ ks fun k' h' e => hn.1 (by
        have := (kcell_eq_iff.mp e).2; rw [Option.some.injEq, Prod.mk.injEq] at this; rw [this.2]; exact h'), Nat.zero_add]
    · rw [if_neg (fun h' => h (by have := (kcell_eq_iff.mp h'.1).2; rw [Option.some.injEq, Prod.mk.injEq] at this; exact this.2)),
        ih ((List.mem_cons.mp hk).resolve_left h) hn.2, Nat.add_zero]

theorem tally_other {g g' : GSem nD τ sig} (n : ℕ) (h : g' ≠ g) : (tallyAt g () n : CellTallies nD τ sig Unit) g' () = 0 := by
  rw [tallyAt_apply]; exact if_neg fun h' => h h'.1
theorem tally_at (g : GSem nD τ sig) (n : ℕ) : (tallyAt g () n : CellTallies nD τ sig Unit) g () = n := by
  rw [tallyAt_apply]; exact if_pos ⟨rfl, rfl⟩

theorem O₀_apply (d : Dev nD) (g : GSem nD τ sig) :
    O₀ d g () = dues (zTo d) all16 g () + dues (xTo d) all16 g () + (tallyAt (kcell (zp d) none) () 1 : CellTallies nD τ sig Unit) g ()
      + (tallyAt (kcell (xp d) none) () 1 : CellTallies nD τ sig Unit) g () := rfl

/-- A cell is none of those whose device or whose place differs. -/
theorem ne_of {c c' : Dev nD} {o o' : Option CK} (h : c = c' → o ≠ o') : kcell c o ≠ kcell c' o' := fun e => h (kcell_eq_iff.mp e).1 (kcell_eq_iff.mp e).2
theorem none_ne (q : CK) : (none : Option CK) ≠ some q := nofun
theorem array_ne {a b : Fin 4} (h : a ≠ b) (k k' : Fin 16) : (some (a, k) : Option CK) ≠ some (b, k') := fun e => h (congrArg Prod.fst (Option.some.inj e))

/-- What device `d` owes device `c`'s barrier. -/
theorem owed_bar (d c : Dev nD) : O₀ d (kcell c none) () = (if d = zp c then 1 else 0) + (if d = xp c then 1 else 0) := by
  rw [O₀_apply, dues_other _ _ _ _ _ fun k _ => ne_of fun _ => none_ne _, dues_other _ _ _ _ _ fun k _ => ne_of fun _ => none_ne _, Nat.add_zero, Nat.zero_add]
  congr 1
  · by_cases h : d = zp c
    · subst h; rw [zp_zp, tally_at, if_pos rfl]
    · rw [if_neg h, tally_other _ (ne_of fun e _ => h (by rw [e, zp_zp]))]
  · by_cases h : d = xp c
    · subst h; rw [xp_xp, tally_at, if_pos rfl]
    · rw [if_neg h, tally_other _ (ne_of fun e _ => h (by rw [e, xp_xp]))]

/-- What device `d` owes device `c`'s cells received on along `x`, and along `z`. -/
theorem owed_x (d c : Dev nD) (k : Fin 16) : O₀ d (kcell c (some (1, k))) () = if d = xp c then N else 0 := by
  rw [O₀_apply, tally_other _ (ne_of fun _ => (none_ne _).symm), tally_other _ (ne_of fun _ => (none_ne _).symm)]
  simp only [Nat.add_zero]
  rw [show dues (zTo d) all16 (kcell c (some (1, k))) () = 0 from dues_other _ _ 3 _ _ fun k' _ => ne_of fun _ => array_ne (by decide) _ _, Nat.zero_add]
  by_cases h : d = xp c
  · subst h; unfold xTo; rw [xp_xp, if_pos rfl, dues_at c 1 k all16 (by revert k; decide) (by decide)]
  · rw [if_neg h]; exact dues_other _ _ 1 _ _ fun k' _ => ne_of fun e _ => h (by rw [e, xp_xp])
theorem owed_z (d c : Dev nD) (k : Fin 16) : O₀ d (kcell c (some (3, k))) () = if d = zp c then N else 0 := by
  rw [O₀_apply, tally_other _ (ne_of fun _ => (none_ne _).symm), tally_other _ (ne_of fun _ => (none_ne _).symm)]
  simp only [Nat.add_zero]
  rw [show dues (xTo d) all16 (kcell c (some (3, k))) () = 0 from dues_other _ _ 1 _ _ fun k' _ => ne_of fun _ => array_ne (by decide) _ _, Nat.add_zero]
  by_cases h : d = zp c
  · subst h; unfold zTo; rw [zp_zp, if_pos rfl, dues_at c 3 k all16 (by revert k; decide) (by decide)]
  · rw [if_neg h]; exact dues_other _ _ 3 _ _ fun k' _ => ne_of fun e _ => h (by rw [e, zp_zp])

omit [FloatOps F] in
theorem launch_of (c : Dev nD) (o : Option CK) (n : ℕ) (h : ∑ d : Dev nD, O₀ d (kcell c o) () = n) :
    tallyOn (kcell c o) (launchCredit (Pipeline.owing O₀) 0 (kcell c o)) = (tallyAt (kcell c o) () n : CellTallies nD τ sig Unit) := by
  unfold tallyAt; refine congrArg _ (Finsupp.ext fun u => ?_); cases u
  rw [Pipeline.launchCredit_owing, Finsupp.single_eq_same, h]

omit [FloatOps F] in
theorem launch_bar (c : Dev nD) :
    tallyOn (kcell c none) (launchCredit (Pipeline.owing O₀) 0 (kcell c none)) = (tallyAt (kcell c none) () 2 : CellTallies nD τ sig Unit) :=
  launch_of c none 2 (by
    rw [Finset.sum_congr rfl fun d _ => owed_bar d c, Finset.sum_add_distrib,
      Finset.sum_ite_eq' Finset.univ (zp c) fun _ => 1, Finset.sum_ite_eq' Finset.univ (xp c) fun _ => 1, if_pos (Finset.mem_univ _), if_pos (Finset.mem_univ _)])
omit [FloatOps F] in
theorem launch_x (c : Dev nD) (k : Fin 16) :
    tallyOn (kcell c (some (1, k))) (launchCredit (Pipeline.owing O₀) 0 (kcell c (some (1, k)))) = (tallyAt (kcell c (some (1, k))) () N : CellTallies nD τ sig Unit) :=
  launch_of c _ N (by rw [Finset.sum_congr rfl fun d _ => owed_x d c k, Finset.sum_ite_eq' Finset.univ (xp c) fun _ => N, if_pos (Finset.mem_univ _)])
omit [FloatOps F] in
theorem launch_z (c : Dev nD) (k : Fin 16) :
    tallyOn (kcell c (some (3, k))) (launchCredit (Pipeline.owing O₀) 0 (kcell c (some (3, k)))) = (tallyAt (kcell c (some (3, k))) () N : CellTallies nD τ sig Unit) :=
  launch_of c _ N (by rw [Finset.sum_congr rfl fun d _ => owed_z d c k, Finset.sum_ite_eq' Finset.univ (zp c) fun _ => N, if_pos (Finset.mem_univ _)])

theorem csem_injective : Function.Injective csem := fun o o' h => by
  have := congrArg kind h; rw [kind_csem, kind_csem] at this; exact Option.some.inj this

omit [FloatOps F] in
/-- The launch's credit is the credit the device waits with. -/
theorem creds (c : Dev nD) : (Pipeline.launchCred O₀ c : sProp 𝕄) ⊢ credits (F := F) c := by
  unfold Pipeline.launchCred credits
  refine (BI.bigSep_subset (Finset.subset_univ (Finset.univ.map ⟨csem, csem_injective⟩))).trans ?_
  rw [bigSep_map]
  show (bigSep Finset.univ fun o : Option CK => (cred (tallyOn (kcell c o) (launchCredit (Pipeline.owing O₀) 0 (kcell c o))) : sProp 𝕄)) ⊢ _
  rw [cells_eq, four_eq]
  unfold four
  rw [launch_bar]
  iintro ⟨HB, -, H1, -, H3⟩
  ihave H1' := (Entails.of_eq (congrArg (bigSepL all16) (funext fun k => congrArg (fun O => (cred O : sProp 𝕄)) (launch_x c k)))) $$ H1
  ihave H3' := (Entails.of_eq (congrArg (bigSepL all16) (funext fun k => congrArg (fun O => (cred O : sProp 𝕄)) (launch_z c k)))) $$ H3
  isplitl [HB]; · iexact HB
  isplitl [H1']; · iexact H1'
  iexact H3'

/-! ## The launch theorem's conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl, scopedRest0_eq]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finish (F := F) c from rfl, scopedRest0_eq]
  unfold finish
  rw [sems_eq]
  iintro ⟨Hu, Ho⟩
  isplitl [Hu]; · iexact Hu
  isplitl [Ho]; · iexact Ho
  iempintro

theorem kind_stage : ∀ (w : Fin cfg0.W) (s : Fin (cfg0.win w).nbuf), lvK (kind (.dma ((cfg0.win w).sem s))) = 0 := by decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (O₀ c) (le_of_eq (kind_stage w s)) fun g u h => O₀_pos h
    · exact mayWait c _ 0 0 (le_of_eq (kind_stage w s)) fun g u h => absurd h (Nat.lt_irrefl 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with its semaphores at zero, for any float values, the program on all the devices ends, its arrays
    at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array after the run holds what it held. -/
theorem finalA_arg (c : Dev nD) : finalA m ρ c (0 : Fin 2) = m ((c : Thread nD τ).loc main_arg0) :=
  (dats (F := F) m ρ 0 c).arrAt_in (0 : Fin 2) rfl _

/-- The result array after the run holds the gathered rows. -/
theorem finalA_out (c : Dev nD) : finalA m ρ c (1 : Fin 2) = gathered (staged m ρ) c :=
  (dats (F := F) m ρ 0 c).arrAt_eq_of_after_last (1 : Fin 2) t0_0 (by decide +kernel) (gathered (staged m ρ) c) fun j => rfl

/-- The argument as staged is the argument array. -/
theorem staged_eq (c : Dev nD) : staged m ρ c = m ((c : Thread nD τ).loc main_arg0) := by
  funext i
  unfold staged
  blk_simp
  refine congrArg (m ((c : Thread nD τ).loc main_arg0)) ?_
  have h0 : win0_0.index (0 : Fin 1) 0 = 0 := by decide +kernel
  have h1 : win0_0.index (0 : Fin 1) 1 = 0 := by decide +kernel
  blk_ext

/-! ## The value -/

/-- The device a row comes from holds the half of the array the row lies in. -/
theorem from_half (c : Dev nD) (r : ℕ) (hr : r < 4096) : (from_ c r).val / 16 = r / 2048 := by
  have hc : c.val < 32 := c.isLt
  have hx := (xp_side c : (xp c).val / 16 = 1 - c.val / 16)
  unfold from_
  split
  · omega
  · split
    · omega
    · have := (xp_side (zp c)); have := zp_side c; omega

/-- On the mesh, a device's block of the whole array is its half. -/
theorem block_row : ∀ d : Dev nD, (Layout.meshBlock [2, 4, 4] ![[0], []] d (by decide) (0 : Fin 2)).val = d.val / 16 := by decide
theorem block_col : ∀ d : Dev nD, (Layout.meshBlock [2, 4, 4] ![[0], []] d (by decide) (1 : Fin 2)).val = 0 := by decide

/-- When every device's argument is its half of one array `X`, every device gathers `X`. -/
theorem gathered_whole (x : Dev nD → S2048x512.Idx → Elt F .bf16) (X : S4096x512.Idx → Elt F .bf16)
    (h : ∀ c, x c = Layout.blockN S2048x512 S4096x512 (Layout.meshBlock [2, 4, 4] ![[0], []] c) X) (c : Dev nD) : gathered x c = X := by
  funext i
  have hi : (i 0).val < 4096 := (i 0).isLt
  unfold gathered
  rw [h, Layout.blockN_apply]
  refine congrArg X (funext fun b => Fin.ext ?_)
  rw [Layout.TilesN.idx_val]
  fin_cases b
  · show (Layout.meshBlock [2, 4, 4] ![[0], []] (from_ c (i 0).val) (by decide) (0 : Fin 2)).val * 2048 + (i 0).val % 2048 = (i 0).val
    rw [block_row, from_half c _ hi]; omega
  · show (Layout.meshBlock [2, 4, 4] ![[0], []] (from_ c (i 0).val) (by decide) (1 : Fin 2)).val * 512 + (i 1).val = (i 1).val
    rw [block_col, Nat.zero_mul, Nat.zero_add]

/-- The run of the program: it ends, the arguments unchanged and every semaphore at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c (0 : Fin 2)).trans (finalA_arg m ρ c), h.2⟩) (run_main m ρ)

/-- The run of the program where every device's argument is its half of one array `X`: every result is `X`. -/
theorem run_value (X : S4096x512.Idx → Elt F .bf16)
    (h : ∀ c : Dev nD, m ((c : Thread nD τ).loc main_arg0) = Layout.blockN S2048x512 S4096x512 (Layout.meshBlock [2, 4, 4] ![[0], []] c) X) :
    θ_run defs (onTc (τ := τ) (main (F := F))) ⟨m, fun _ => 0, ρ⟩ (fun r => ∀ c : Dev nD,
      r.2.mem ((c.tc : Thread nD τ).loc main_v1) = X
      ∧ r.2.mem ((c.tc : Thread nD τ).loc main_arg0) = m ((c.tc : Thread nD τ).loc main_arg0)) :=
  (θ_run defs _ _).mono (fun _ hr c => ⟨((hr.1 c (1 : Fin 2)).trans (finalA_out m ρ c)).trans
    (gathered_whole _ X (fun d => (staged_eq m ρ d).trans (h d)) c), (hr.1 c (0 : Fin 2)).trans (finalA_arg m ρ c)⟩) (run_main m ρ)

end Cert.KernelIdeal.Hand

end
-- ==== Proof.Ref.lean ====
/-
# The reference's run

The reference is the gathered array itself: its program returns its one argument, the whole array on one device.
-/
module

public import proofs.«01_k».proof.ReferenceIdeal
public import Idealize.ShloMosaic.Lib.StableHlo.Run
public import Idealize.ShloMosaic.Lib.Quiescent

@[expose] public section

noncomputable section

namespace Cert.ReferenceIdeal.Hand

open Cert.ReferenceIdeal
open Idealize.ShloMosaic Idealize.ShloMosaic.TcCoe Idealize.ShloMosaic.StableHlo Idealize.SL.Sem

variable {F : FTy → Type} [FloatOps F]

/-- The program states no side condition. -/
instance facts : Cert.ReferenceIdeal.Facts where

theorem no_scoped_refs : (Finset.univ.filter fun b : Ref sig .tc => b.isScoped) = ∅ := by decide
theorem no_scoped_sems : (Finset.univ.filter fun sm : SemLoc sig => sm.isScoped .tc) = ∅ := by decide

/-- The run of the reference: it ends, its argument, which is its result, unchanged and every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq no_scoped_refs no_scoped_sems defs main (fun _ => []) (fun _ => rfl) (fun _ => trivial) m ρ)

end Cert.ReferenceIdeal.Hand

end
-- ==== Proof.RefKernel.lean ====
/-
# The reference's run

The reference is the gathered array itself: its program returns its one argument, the whole array on one device.
-/
module

public import proofs.«01_k».proof.Reference
public import Idealize.ShloMosaic.Lib.StableHlo.Run
public import Idealize.ShloMosaic.Lib.Quiescent

@[expose] public section

noncomputable section

namespace Cert.Reference.Hand

open Cert.Reference
open Idealize.ShloMosaic Idealize.ShloMosaic.TcCoe Idealize.ShloMosaic.StableHlo Idealize.SL.Sem

variable {F : FTy → Type} [FloatOps F]

/-- The program states no side condition. -/
instance facts : Cert.Reference.Facts where

theorem no_scoped_refs : (Finset.univ.filter fun b : Ref sig .tc => b.isScoped) = ∅ := by decide
theorem no_scoped_sems : (Finset.univ.filter fun sm : SemLoc sig => sm.isScoped .tc) = ∅ := by decide

/-- The run of the reference: it ends, its argument, which is its result, unchanged and every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq no_scoped_refs no_scoped_sems defs main (fun _ => []) (fun _ => rfl) (fun _ => trivial) m ρ)

end Cert.Reference.Hand

end
-- ==== Proof.lean ====
module

public import proofs.«01_k».proof.Defs
public import proofs.«01_k».proof.Proof.Gen.Kernel
public import proofs.«01_k».proof.Proof.Gen.KernelIdeal
public import proofs.«01_k».proof.Proof.Run
public import proofs.«01_k».proof.Proof.RunKernel
public import proofs.«01_k».proof.Proof.Ref
public import proofs.«01_k».proof.Proof.RefKernel
public import Idealize.ShloMosaic.Adequacy
public import Idealize.ShloMosaic.Init

@[expose] public section

noncomputable section

namespace Cert.Proof

open Idealize.ShloMosaic Idealize.SL.Sem

/-- The kernel runs, its arguments unchanged and every semaphore at zero at the end. -/
theorem frame_kernel : quiescent_Kernel := fun m ρ _ => Cert.Kernel.Hand.run_frame m ρ

/-- So does its ideal reading. -/
theorem frame_kernelIdeal : quiescent_KernelIdeal := fun m ρ _ => Cert.KernelIdeal.Hand.run_frame m ρ

/-- The reference runs, its argument unchanged and every semaphore at zero at the end. -/
theorem frame_reference : quiescent_Reference := fun m ρ _ => Cert.Reference.Hand.run_main m ρ

/-- So does its ideal reading. -/
theorem frame_referenceIdeal : quiescent_ReferenceIdeal := fun m ρ _ => Cert.ReferenceIdeal.Hand.run_main m ρ

/-- At the ideal floats every device's result is the reference's. -/
theorem algebraic : algebraic_KernelIdeal_ReferenceIdeal := fun m ρ m' ρ' _ h =>
  ⟨m' (((0 : Dev Cert.ReferenceIdeal.nD).tc : Thread Cert.ReferenceIdeal.nD Cert.ReferenceIdeal.τ).loc Cert.ReferenceIdeal.main_arg0),
    Cert.KernelIdeal.Hand.run_value m ρ _ h,
    (θ_run Cert.ReferenceIdeal.defs _ _).mono (fun _ hr => ⟨hr.1 0, hr.1 0⟩) (Cert.ReferenceIdeal.Hand.run_main m' ρ')⟩

/-- At the bit patterns every device's result is the reference's. -/
theorem bitexact : bitexact_Kernel_Reference := fun m ρ m' ρ' _ h =>
  ⟨m' (((0 : Dev Cert.Reference.nD).tc : Thread Cert.Reference.nD Cert.Reference.τ).loc Cert.Reference.main_arg0),
    Cert.Kernel.Hand.run_value m ρ _ h,
    (θ_run Cert.Reference.defs _ _).mono (fun _ hr => ⟨hr.1 0, hr.1 0⟩) (Cert.Reference.Hand.run_main m' ρ')⟩

theorem claim : Cert.Claim :=
  ⟨Cert.Kernel.Gen.facts, Cert.KernelIdeal.Gen.facts, Cert.ReferenceIdeal.Hand.facts, Cert.Reference.Hand.facts,
    frame_kernel, frame_kernelIdeal, frame_referenceIdeal, frame_reference, trivial, algebraic, bitexact⟩

end Cert.Proof

end
